-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v5_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5_5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S_ : Shape := ⟨0, ![]⟩

class Facts : Prop where
  bcast_S_S256x1 : S_.BroadcastsInDim S256x1 (![] : Fin 0 → Fin S256x1.rank)
  reducesTo_S256x1_S_d0_1 : S256x1.ReducesTo [0, 1] S_
  h_S_ : 0 < S_.numel

variable [Facts]

def fn {F : FTy → Type} [FloatOps F] (main_arg0 : FVec F S256x128 .bf16) (main_arg1 : FVec F S128x32 .bf16) (main_arg2 : IVec S256x1 32) (main_arg3 : FVec F S2x128x256 .bf16) : IVec S_ 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 32#32
  let main_v2 : IVec S256x1 32 := broadcastInDim S256x1 ![] bcast_S_S256x1 main_c_0
  let main_v3 : IVec S256x1 1 := cmpi .slt main_arg2 main_v2
  let main_v4 : IVec S256x1 1 := andi main_v1 main_v3
  let main_c_1 : IVec S_ 1 := constantI S_ 1 1#1
  let main_v5 : IVec S_ 1 := (fun x v => Host.reduce IntOp.andi x v reducesTo_S256x1_S_d0_1 h_S_) main_v4 main_c_1
  main_v5
-- ==== Pre_routed_ReferenceIdeal.lean ====
abbrev S256x128 : Shape := ⟨2, ![256, 128]⟩
abbrev S128x32 : Shape := ⟨2, ![128, 32]⟩
abbrev S256x1 : Shape := ⟨2, ![256, 1]⟩
abbrev S32x128x256 : Shape := ⟨3, ![32, 128, 256]⟩
abbrev S_ : Shape := ⟨0, ![]⟩

class Facts : Prop where
  bcast_S_S256x1 : S_.BroadcastsInDim S256x1 (![] : Fin 0 → Fin S256x1.rank)
  reducesTo_S256x1_S_d0_1 : S256x1.ReducesTo [0, 1] S_
  h_S_ : 0 < S_.numel

variable [Facts]

def fn {F : FTy → Type} [FloatOps F] (main_arg0 : FVec F S256x128 .bf16) (main_arg1 : FVec F S128x32 .bf16) (main_arg2 : IVec S256x1 32) (main_arg3 : FVec F S32x128x256 .bf16) : IVec S_ 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 32#32
  let main_v2 : IVec S256x1 32 := broadcastInDim S256x1 ![] bcast_S_S256x1 main_c_0
  let main_v3 : IVec S256x1 1 := cmpi .slt main_arg2 main_v2
  let main_v4 : IVec S256x1 1 := andi main_v1 main_v3
  let main_c_1 : IVec S_ 1 := constantI S_ 1 1#1
  let main_v5 : IVec S_ 1 := (fun x v => Host.reduce IntOp.andi x v reducesTo_S256x1_S_d0_1 h_S_) main_v4 main_c_1
  main_v5
-- ==== Kernel.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S256x256 : Shape := ⟨2, ![256, 256]⟩
abbrev S_ : Shape := ⟨0, ![]⟩
abbrev S1x256 : Shape := ⟨2, ![1, 256]⟩
abbrev S256 : Shape := ⟨1, ![256]⟩
abbrev S16x256 : Shape := ⟨2, ![16, 256]⟩
abbrev S16x128 : Shape := ⟨2, ![16, 128]⟩
abbrev S8x128 : Shape := ⟨2, ![8, 128]⟩
abbrev S1x128x256 : Shape := ⟨3, ![1, 128, 256]⟩
abbrev S128x256 : Shape := ⟨2, ![128, 256]⟩
abbrev S8x256 : Shape := ⟨2, ![8, 256]⟩

abbrev nBuf : Space → Nat
  | .hbm => 5
  | .vmem => 5
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x1, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S256x1, .i32⟩
  | .local _ .vmem, ⟨2, _⟩ => ⟨S2x128x256, .bf16⟩
  | .local _ .vmem, ⟨3, _⟩ => ⟨S256x256, .f32⟩
  | .local _ .vmem, ⟨4, _⟩ => ⟨S256x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v25 : BitVec 32 := Scalar.xori v2 c8_i32
  let c1_i32_22 : BitVec 32 := 1#32
  let v26 : BitVec 32 := Scalar.muli v25 c1_i32_22
  let v27 : BitVec 32 := Scalar.addi c0_i32_23 v26
  v27.toNat
def k0_dev9 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v28 : BitVec 32 := Scalar.xori v2 c9_i32
  let c1_i32_25 : BitVec 32 := 1#32
  let v29 : BitVec 32 := Scalar.muli v28 c1_i32_25
  let v30 : BitVec 32 := Scalar.addi c0_i32_26 v29
  v30.toNat
def k0_dev10 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v31 : BitVec 32 := Scalar.xori v2 c10_i32
  let c1_i32_28 : BitVec 32 := 1#32
  let v32 : BitVec 32 := Scalar.muli v31 c1_i32_28
  let v33 : BitVec 32 := Scalar.addi c0_i32_29 v32
  v33.toNat
def k0_dev11 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v34 : BitVec 32 := Scalar.xori v2 c11_i32
  let c1_i32_31 : BitVec 32 := 1#32
  let v35 : BitVec 32 := Scalar.muli v34 c1_i32_31
  let v36 : BitVec 32 := Scalar.addi c0_i32_32 v35
  v36.toNat
def k0_dev12 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v37 : BitVec 32 := Scalar.xori v2 c12_i32
  let c1_i32_34 : BitVec 32 := 1#32
  let v38 : BitVec 32 := Scalar.muli v37 c1_i32_34
  let v39 : BitVec 32 := Scalar.addi c0_i32_35 v38
  v39.toNat
def k0_dev13 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v40 : BitVec 32 := Scalar.xori v2 c13_i32
  let c1_i32_37 : BitVec 32 := 1#32
  let v41 : BitVec 32 := Scalar.muli v40 c1_i32_37
  let v42 : BitVec 32 := Scalar.addi c0_i32_38 v41
  v42.toNat
def k0_dev14 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v43 : BitVec 32 := Scalar.xori v2 c14_i32
  let c1_i32_40 : BitVec 32 := 1#32
  let v44 : BitVec 32 := Scalar.muli v43 c1_i32_40
  let v45 : BitVec 32 := Scalar.addi c0_i32_41 v44
  v45.toNat
def k0_dev15 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v46 : BitVec 32 := Scalar.xori v2 c15_i32
  let c1_i32_43 : BitVec 32 := 1#32
  let v47 : BitVec 32 := Scalar.muli v46 c1_i32_43
  let v48 : BitVec 32 := Scalar.addi c0_i32_44 v47
  v48.toNat
def k0_off1 (d0 : Dev nD) (c0_i32_61 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_56 : BitVec 32 := 16#32
  let v99 : BitVec 32 := Scalar.muli v2 c16_i32_56
  let v105 : BitVec 32 := Scalar.addi v99 c0_i32_61
  let v106 : Index := Scalar.indexCast v105
  let c0_62 : Index := 0#32
  ![v106.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_56 : BitVec 32 := 16#32
  let v99 : BitVec 32 := Scalar.muli v2 c16_i32_56
  let c0_i32_72 : BitVec 32 := 0#32
  ![v99.toNat, 0]
def k0_dev16 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_69 : BitVec 32 := 1#32
  let v120 : BitVec 32 := Scalar.xori v2 c1_i32_69
  let c1_i32_70 : BitVec 32 := 1#32
  let v121 : BitVec 32 := Scalar.muli v120 c1_i32_70
  let v122 : BitVec 32 := Scalar.addi c0_i32_71 v121
  v122.toNat
def k0_dev17 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_74 : BitVec 32 := 2#32
  let v125 : BitVec 32 := Scalar.xori v2 c2_i32_74
  let c1_i32_75 : BitVec 32 := 1#32
  let v126 : BitVec 32 := Scalar.muli v125 c1_i32_75
  let v127 : BitVec 32 := Scalar.addi c0_i32_76 v126
  v127.toNat
def k0_dev18 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_79 : BitVec 32 := 3#32
  let v130 : BitVec 32 := Scalar.xori v2 c3_i32_79
  let c1_i32_80 : BitVec 32 := 1#32
  let v131 : BitVec 32 := Scalar.muli v130 c1_i32_80
  let v132 : BitVec 32 := Scalar.addi c0_i32_81 v131
  v132.toNat
def k0_dev19 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_84 : BitVec 32 := 4#32
  let v135 : BitVec 32 := Scalar.xori v2 c4_i32_84
  let c1_i32_85 : BitVec 32 := 1#32
  let v136 : BitVec 32 := Scalar.muli v135 c1_i32_85
  let v137 : BitVec 32 := Scalar.addi c0_i32_86 v136
  v137.toNat
def k0_dev20 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_89 : BitVec 32 := 5#32
  let v140 : BitVec 32 := Scalar.xori v2 c5_i32_89
  let c1_i32_90 : BitVec 32 := 1#32
  let v141 : BitVec 32 := Scalar.muli v140 c1_i32_90
  let v142 : BitVec 32 := Scalar.addi c0_i32_91 v141
  v142.toNat
def k0_dev21 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_94 : BitVec 32 := 6#32
  let v145 : BitVec 32 := Scalar.xori v2 c6_i32_94
  let c1_i32_95 : BitVec 32 := 1#32
  let v146 : BitVec 32 := Scalar.muli v145 c1_i32_95
  let v147 : BitVec 32 := Scalar.addi c0_i32_96 v146
  v147.toNat
def k0_dev22 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_99 : BitVec 32 := 7#32
  let v150 : BitVec 32 := Scalar.xori v2 c7_i32_99
  let c1_i32_100 : BitVec 32 := 1#32
  let v151 : BitVec 32 := Scalar.muli v150 c1_i32_100
  let v152 : BitVec 32 := Scalar.addi c0_i32_101 v151
  v152.toNat
def k0_dev23 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_104 : BitVec 32 := 8#32
  let v155 : BitVec 32 := Scalar.xori v2 c8_i32_104
  let c1_i32_105 : BitVec 32 := 1#32
  let v156 : BitVec 32 := Scalar.muli v155 c1_i32_105
  let v157 : BitVec 32 := Scalar.addi c0_i32_106 v156
  v157.toNat
def k0_dev24 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_109 : BitVec 32 := 9#32
  let v160 : BitVec 32 := Scalar.xori v2 c9_i32_109
  let c1_i32_110 : BitVec 32 := 1#32
  let v161 : BitVec 32 := Scalar.muli v160 c1_i32_110
  let v162 : BitVec 32 := Scalar.addi c0_i32_111 v161
  v162.toNat
def k0_dev25 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_114 : BitVec 32 := 10#32
  let v165 : BitVec 32 := Scalar.xori v2 c10_i32_114
  let c1_i32_115 : BitVec 32 := 1#32
  let v166 : BitVec 32 := Scalar.muli v165 c1_i32_115
  let v167 : BitVec 32 := Scalar.addi c0_i32_116 v166
  v167.toNat
def k0_dev26 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_119 : BitVec 32 := 11#32
  let v170 : BitVec 32 := Scalar.xori v2 c11_i32_119
  let c1_i32_120 : BitVec 32 := 1#32
  let v171 : BitVec 32 := Scalar.muli v170 c1_i32_120
  let v172 : BitVec 32 := Scalar.addi c0_i32_121 v171
  v172.toNat
def k0_dev27 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_124 : BitVec 32 := 12#32
  let v175 : BitVec 32 := Scalar.xori v2 c12_i32_124
  let c1_i32_125 : BitVec 32 := 1#32
  let v176 : BitVec 32 := Scalar.muli v175 c1_i32_125
  let v177 : BitVec 32 := Scalar.addi c0_i32_126 v176
  v177.toNat
def k0_dev28 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_129 : BitVec 32 := 13#32
  let v180 : BitVec 32 := Scalar.xori v2 c13_i32_129
  let c1_i32_130 : BitVec 32 := 1#32
  let v181 : BitVec 32 := Scalar.muli v180 c1_i32_130
  let v182 : BitVec 32 := Scalar.addi c0_i32_131 v181
  v182.toNat
def k0_dev29 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_134 : BitVec 32 := 14#32
  let v185 : BitVec 32 := Scalar.xori v2 c14_i32_134
  let c1_i32_135 : BitVec 32 := 1#32
  let v186 : BitVec 32 := Scalar.muli v185 c1_i32_135
  let v187 : BitVec 32 := Scalar.addi c0_i32_136 v186
  v187.toNat
def k0_dev30 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_139 : BitVec 32 := 15#32
  let v190 : BitVec 32 := Scalar.xori v2 c15_i32_139
  let c1_i32_140 : BitVec 32 := 1#32
  let v191 : BitVec 32 := Scalar.muli v190 c1_i32_140
  let v192 : BitVec 32 := Scalar.addi c0_i32_141 v191
  v192.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x32 : Shape := ⟨2, ![128, 32]⟩
abbrev S256x1 : Shape := ⟨2, ![256, 1]⟩
abbrev S32x128x256 : Shape := ⟨3, ![32, 128, 256]⟩
abbrev S_ : Shape := ⟨0, ![]⟩
abbrev S32 : Shape := ⟨1, ![32]⟩
abbrev S256 : Shape := ⟨1, ![256]⟩
abbrev S256x256 : Shape := ⟨2, ![256, 256]⟩
abbrev S1x128 : Shape := ⟨2, ![1, 128]⟩
abbrev S128 : Shape := ⟨1, ![128]⟩
abbrev S1 : Shape := ⟨1, ![1]⟩
abbrev S1x128x256 : Shape := ⟨3, ![1, 128, 256]⟩
abbrev S128x256 : Shape := ⟨2, ![128, 256]⟩
abbrev S1x256 : Shape := ⟨2, ![1, 256]⟩

abbrev nBuf : Space → Nat
  | .hbm => 75
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x1, .i32⟩
  | .hbm, ⟨3, _⟩ => ⟨S32x128x256, .bf16⟩
  | .hbm, ⟨4, _⟩ => ⟨S256x128, .f32⟩
  | .hbm, ⟨5, _⟩ => ⟨S32x128x256, .f32⟩
  | .hbm, ⟨6, _⟩ => ⟨S_, .i32⟩
  | .hbm, ⟨7, _⟩ => ⟨S32, .i32⟩
  | .hbm, ⟨8, _⟩ => ⟨S256, .i32⟩
  | .hbm, ⟨9, _⟩ => ⟨S_, .f32⟩
  | .hbm, ⟨10, _⟩ => ⟨S256x256, .f32⟩
  | .hbm, ⟨11, _⟩ => ⟨S_, .i32⟩
  | .hbm, ⟨12, _⟩ => ⟨S256x128, .f32⟩
  | .hbm, ⟨13, _⟩ => ⟨S256, .i32⟩
  | .hbm, ⟨14, _⟩ => ⟨S32x128x256, .f32⟩
  | .hbm, ⟨15, _⟩ => ⟨S_, .i32⟩
  | .hbm, ⟨16, _⟩ => ⟨S32, .i32⟩
  | .hbm, ⟨17, _⟩ => ⟨S256x256, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S1x128, .f32⟩
  | .hbm, ⟨22, _⟩ => ⟨S128, .f32⟩
  | .hbm, ⟨23, _⟩ => ⟨S1, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x128x256, .f32⟩
  | .hbm, ⟨56, _⟩ => ⟨S128x256, .f32⟩
  | .hbm, ⟨57, _⟩ => ⟨S256, .f32⟩
  | .hbm, ⟨58, _⟩ => ⟨S_, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1, .i32⟩
  | .hbm, ⟨69, _⟩ => ⟨S32, .i32⟩
  | .hbm, ⟨70, _⟩ => ⟨S1x256, .f32⟩
  | .hbm, ⟨71, _⟩ => ⟨S_, .i32⟩
  | .hbm, ⟨72, _⟩ => ⟨S256x256, .f32⟩
  | .hbm, ⟨73, _⟩ => ⟨S_, .i32⟩
  | .hbm, ⟨74, _⟩ => ⟨S_, .i32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c_0 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_while0c_c_6 : Ref sig .tc := ⟨.hbm, 18, rfl⟩
abbrev main_while0c_v6 : Ref sig .tc := ⟨.hbm, 19, rfl⟩
abbrev main_while0b_call0_c : Ref sig .tc := ⟨.hbm, 20, rfl⟩
abbrev main_while0b_call0_v0 : Ref sig .tc := ⟨.hbm, 21, rfl⟩
abbrev main_while0b_v6 : Ref sig .tc := ⟨.hbm, 22, rfl⟩
abbrev main_while0b_call1_v0 : Ref sig .tc := ⟨.hbm, 23, rfl⟩
abbrev main_while0b_v7 : Ref sig .tc := ⟨.hbm, 24, rfl⟩
abbrev main_while0b_c_6 : Ref sig .tc := ⟨.hbm, 25, rfl⟩
abbrev main_while0b_v8 : Ref sig .tc := ⟨.hbm, 26, rfl⟩
abbrev main_while0b_c_7 : Ref sig .tc := ⟨.hbm, 27, rfl⟩
abbrev main_while0b_v9 : Ref sig .tc := ⟨.hbm, 28, rfl⟩
abbrev main_while0b_v10 : Ref sig .tc := ⟨.hbm, 29, rfl⟩
abbrev main_while0b_v11 : Ref sig .tc := ⟨.hbm, 30, rfl⟩
abbrev main_while0b_v12 : Ref sig .tc := ⟨.hbm, 31, rfl⟩
abbrev main_while0b_c_8 : Ref sig .tc := ⟨.hbm, 32, rfl⟩
abbrev main_while0b_v13 : Ref sig .tc := ⟨.hbm, 33, rfl⟩
abbrev main_while0b_c_9 : Ref sig .tc := ⟨.hbm, 34, rfl⟩
abbrev main_while0b_v14 : Ref sig .tc := ⟨.hbm, 35, rfl⟩
abbrev main_while0b_c_10 : Ref sig .tc := ⟨.hbm, 36, rfl⟩
abbrev main_while0b_v15 : Ref sig .tc := ⟨.hbm, 37, rfl⟩
abbrev main_while0b_v16 : Ref sig .tc := ⟨.hbm, 38, rfl⟩
abbrev main_while0b_c_11 : Ref sig .tc := ⟨.hbm, 39, rfl⟩
abbrev main_while0b_c_12 : Ref sig .tc := ⟨.hbm, 40, rfl⟩
abbrev main_while0b_v17 : Ref sig .tc := ⟨.hbm, 41, rfl⟩
abbrev main_while0b_c_13 : Ref sig .tc := ⟨.hbm, 42, rfl⟩
abbrev main_while0b_c_14 : Ref sig .tc := ⟨.hbm, 43, rfl⟩
abbrev main_while0b_v18 : Ref sig .tc := ⟨.hbm, 44, rfl⟩
abbrev main_while0b_c_15 : Ref sig .tc := ⟨.hbm, 45, rfl⟩
abbrev main_while0b_v19 : Ref sig .tc := ⟨.hbm, 46, rfl⟩
abbrev main_while0b_c_16 : Ref sig .tc := ⟨.hbm, 47, rfl⟩
abbrev main_while0b_c_17 : Ref sig .tc := ⟨.hbm, 48, rfl⟩
abbrev main_while0b_v20 : Ref sig .tc := ⟨.hbm, 49, rfl⟩
abbrev main_while0b_c_18 : Ref sig .tc := ⟨.hbm, 50, rfl⟩
abbrev main_while0b_c_19 : Ref sig .tc := ⟨.hbm, 51, rfl⟩
abbrev main_while0b_v21 : Ref sig .tc := ⟨.hbm, 52, rfl⟩
abbrev main_while0b_c_20 : Ref sig .tc := ⟨.hbm, 53, rfl⟩
abbrev main_while0b_v22 : Ref sig .tc := ⟨.hbm, 54, rfl⟩
abbrev main_while0b_v23 : Ref sig .tc := ⟨.hbm, 55, rfl⟩
abbrev main_while0b_v24 : Ref sig .tc := ⟨.hbm, 56, rfl⟩
abbrev main_while0b_v25 : Ref sig .tc := ⟨.hbm, 57, rfl⟩
abbrev main_while0b_cst_21 : Ref sig .tc := ⟨.hbm, 58, rfl⟩
abbrev main_while0b_call2_v0 : Ref sig .tc := ⟨.hbm, 59, rfl⟩
abbrev main_while0b_call2_v1 : Ref sig .tc := ⟨.hbm, 60, rfl⟩
abbrev main_while0b_v26 : Ref sig .tc := ⟨.hbm, 61, rfl⟩
abbrev main_while0b_v27 : Ref sig .tc := ⟨.hbm, 62, rfl⟩
abbrev main_while0b_c_22 : Ref sig .tc := ⟨.hbm, 63, rfl⟩
abbrev main_while0b_v28 : Ref sig .tc := ⟨.hbm, 64, rfl⟩
abbrev main_while0b_c_23 : Ref sig .tc := ⟨.hbm, 65, rfl⟩
abbrev main_while0b_v29 : Ref sig .tc := ⟨.hbm, 66, rfl⟩
abbrev main_while0b_v30 : Ref sig .tc := ⟨.hbm, 67, rfl⟩
abbrev main_while0b_v31 : Ref sig .tc := ⟨.hbm, 68, rfl⟩
abbrev main_while0b_v32 : Ref sig .tc := ⟨.hbm, 69, rfl⟩
abbrev main_while0b_call3_v0 : Ref sig .tc := ⟨.hbm, 70, rfl⟩
abbrev main_while0b_call3_c : Ref sig .tc := ⟨.hbm, 71, rfl⟩
abbrev main_while0b_v33 : Ref sig .tc := ⟨.hbm, 72, rfl⟩
abbrev main_while0b_c_24 : Ref sig .tc := ⟨.hbm, 73, rfl⟩
abbrev main_while0b_v34 : Ref sig .tc := ⟨.hbm, 74, rfl⟩

abbrev nD : Nat := 1
abbrev τ : Topo := Topo.v7x

variable {F : FTy → Type} [FloatOps F]

abbrev main_while0_count : Scf.Loop 32 := ⟨0#32, 256#32, 1#32⟩
-- ==== Proof.Exchange.lean ====
/-
# The all-to-all exchange: devices, blocks, cells and the round each cell goes through

Sixteen devices each compute sixteen rows of a common 256×256 array and send them to the fifteen others. Device `c` and
the number `o ≠ 0` name a partner, `peer c o = c xor o`, and `c` is the partner `o` of its partner `o`. All the
bookkeeping is by these numbers: at every cell (the barrier semaphore, the semaphore counting what has been sent, the
semaphore counting what has arrived) the unit or credit number `o` is paid by the cell's partner `o`.

  * barrier of `c`, number `o`: the partner lends `c` the rows of the partner's scratch array that `c` is going to fill;
  * arrival at `c`, number `o`: the partner's rows are in `c`'s scratch array;
  * sent from `c`, number `o`: the share of `c`'s own rows that transfer `o` was reading comes back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the launch's own copy and the exchange's (numbers below sixteen as duty names) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## Partners -/

set_option backward.proofsInPublic true in
/-- Partner `o` of device `c`. -/
def peer (c : Dev nD) (o : Fin 16) : Dev nD := ⟨c.val ^^^ o.val, Nat.xor_lt_two_pow (n := 4) c.isLt o.isLt⟩

theorem peer_peer (c : Dev nD) (o : Fin 16) : peer (peer c o) o = c :=
  Fin.ext (by simp only [peer, Nat.xor_assoc, Nat.xor_self, Nat.xor_zero])
theorem peer_zero (c : Dev nD) : peer c 0 = c := Fin.ext (Nat.xor_zero _)
theorem peer_eq_iff {c d : Dev nD} {o : Fin 16} : peer d o = c ↔ d = peer c o :=
  ⟨fun h => by rw [← h, peer_peer], fun h => by rw [h, peer_peer]⟩
/-- The number of the partner `p` of `c`. -/
def nth (c p : Dev nD) : Fin 16 := ⟨c.val ^^^ p.val, Nat.xor_lt_two_pow (n := 4) c.isLt p.isLt⟩
theorem peer_nth (c p : Dev nD) : peer c (nth c p) = p :=
  Fin.ext (by simp only [peer, nth, ← Nat.xor_assoc, Nat.xor_self, Nat.zero_xor])
theorem nth_peer (c : Dev nD) (o : Fin 16) : nth c (peer c o) = o :=
  Fin.ext (by simp only [peer, nth, ← Nat.xor_assoc, Nat.xor_self, Nat.zero_xor])

/-- Partner `o` as a permutation of the devices, and the partners of one device as a numbering of them. -/
def across (o : Fin 16) : Dev nD ≃ Dev nD := ⟨fun c => peer c o, fun c => peer c o, fun c => peer_peer c o, fun c => peer_peer c o⟩
def numbering (c : Dev nD) : Fin 16 ≃ Dev nD := ⟨peer c, nth c, nth_peer c, peer_nth c⟩

/-- The numbers of the true partners, in the order the program takes them. -/
abbrev offL : List (Fin 16) := [1, 2, 3, 4, 5, 6, 7, 8, 9, 10, 11, 12, 13, 14, 15]
abbrev offs : Finset (Fin 16) := Finset.univ.erase 0

/-! ## A separating conjunction along a list -/

def sepL {I : Type} (Φ : I → sProp 𝕄) : List I → sProp 𝕄
  | [] => iprop(emp)
  | i :: l => iprop(Φ i ∗ sepL Φ l)

omit [FloatOps F] in
theorem bigSep_sepL {I : Type} [DecidableEq I] (Φ : I → sProp 𝕄) : ∀ l : List I, l.Nodup → bigSep l.toFinset Φ = sepL Φ l
  | [], _ => by rw [List.toFinset_nil, bigSep_empty]; rfl
  | i :: l, h => by
    rw [List.nodup_cons] at h
    rw [List.toFinset_cons, bigSep_insert (by rw [List.mem_toFinset]; exact h.1), bigSep_sepL Φ l h.2]; rfl

omit [FloatOps F] in
theorem bigSep_offs (Φ : Fin 16 → sProp 𝕄) : bigSep offs Φ = sepL Φ offL := by
  rw [← bigSep_sepL Φ offL (by decide)]; exact congrArg (fun s => bigSep s Φ) (by decide)
omit [FloatOps F] in
theorem bigSep_all (Φ : Fin 16 → sProp 𝕄) : bigSep Finset.univ Φ = iprop(Φ 0 ∗ bigSep offs Φ) :=
  bigSep_erase (Finset.mem_univ _)

/-! ## The scratch array by blocks of sixteen rows -/

abbrev xM : Memref sig .tc .vmem S256x128 .bf16 := Memref.whole cc0_stg0_0
abbrev iM : Memref sig .tc .vmem S256x1 .i32 := Memref.whole cc0_stg1_0
abbrev wM : Memref sig .tc .vmem S2x128x256 .bf16 := Memref.whole cc0_stg2_0
abbrev oM : Memref sig .tc .vmem S256x256 .f32 := Memref.whole cc0_stg3_0
abbrev cM : Memref sig .tc .vmem S256x256 .bf16 := Memref.whole cc0_scratch0
/-- The rows of device `p`. -/
abbrev rowM (p : Dev nD) : Memref sig .tc .vmem S16x256 .bf16 :=
  cM.slice (Rect.unit (s := S256x256) (k0_off2 p) S16x256.size (k0_off2_inb p)) (fun _ => rfl)

/-- The contents of a scratch array. -/
abbrev Arr : Type := (cc0_scratch0 : Ref sig .tc).ty.Contents (Elt F)

def rowSet (p : Dev nD) : Finset (S256x256.Idx) := Finset.univ.filter fun i => (i 0).val / 16 = p.val
theorem mem_rowSet (p : Dev nD) (i : S256x256.Idx) : i ∈ rowSet p ↔ (i 0).val / 16 = p.val := by
  unfold rowSet; rw [Finset.mem_filter]; exact ⟨fun h => h.2, fun h => ⟨Finset.mem_univ _, h⟩⟩

theorem rowM_set (p : Dev nD) : (rowM p).view.set = rowSet p := by
  refine (View.set_slice_whole cc0_scratch0 _).trans (Finset.ext fun (i : S256x256.Idx) => ?_)
  rw [Rect.mem_set_unit, mem_rowSet, k0_off2_eq]
  constructor
  · intro h
    have h0 := h 0
    change 16 * p.val ≤ (i 0).val ∧ (i 0).val < 16 * p.val + 16 at h0
    omega
  · intro h a
    match a with
    | ⟨0, _⟩ => show 16 * p.val ≤ (i 0).val ∧ (i 0).val < 16 * p.val + 16; omega
    | ⟨1, _⟩ => show 0 ≤ (i 1).val ∧ (i 1).val < 0 + 256; exact ⟨Nat.zero_le _, by rw [Nat.zero_add]; exact (i 1).isLt⟩

theorem rowSet_disjoint {p p' : Dev nD} (h : p ≠ p') : Disjoint (rowSet p) (rowSet p') :=
  Finset.disjoint_left.mpr fun i h1 h2 => h (Fin.ext ((mem_rowSet p i).mp h1 ▸ (mem_rowSet p' i).mp h2))

theorem row_lt (i : S256x256.Idx) : (i 0).val < 256 := (i 0).isLt
/-- The device whose rows an element belongs to. -/
def devOf (i : S256x256.Idx) : Dev nD := ⟨(i 0).val / 16, Nat.div_lt_of_lt_mul (row_lt i)⟩
theorem rowSet_cover (c : Dev nD) : Finset.univ.biUnion (fun o : Fin 16 => rowSet (peer c o)) = Finset.univ :=
  Finset.eq_univ_of_forall fun i => Finset.mem_biUnion.mpr ⟨nth c (devOf i), Finset.mem_univ _, (mem_rowSet _ i).mpr (by rw [peer_nth]; rfl)⟩
theorem rowSet_peer_disjoint (c : Dev nD) (o o' : Fin 16) (h : o ≠ o') : Disjoint (rowSet (peer c o)) (rowSet (peer c o')) :=
  rowSet_disjoint fun e => h (by rw [← nth_peer c o, e, nth_peer])

/-- Device `c` holds device `p`'s rows of its scratch array, share `q`, with contents `f`. -/
def rows (c p : Dev nD) (q : PosShare TreeShare) (f : Arr (F := F)) : sProp 𝕄 :=
  (rowM p).view.loc (c : Thread nD τ) ↦[(rowM p).view.set]{q} f

omit [FloatOps F] in
instance rows_storable (c p : Dev nD) (q) (f) : BI.Storable (upEmb : UEmb _ 𝕄) (rows (F := F) c p q f) := by unfold rows; infer_instance

omit [FloatOps F] in
theorem rows_eq (c p : Dev nD) (q : PosShare TreeShare) (f : Arr (F := F)) :
    rows c p q f = (((c : Thread nD τ).loc cc0_scratch0) ↦[rowSet p]{q} f : sProp 𝕄) := by unfold rows; rw [rowM_set]

omit [FloatOps F] in
theorem rows_congr (c p : Dev nD) (q : PosShare TreeShare) (f g : Arr (F := F)) (h : ∀ i : S256x256.Idx, (i 0).val / 16 = p.val → f i = g i) :
    rows c p q f = rows c p q g := by
  rw [rows_eq, rows_eq]; exact pointsTo_congr fun i hi => h i ((mem_rowSet p i).mp hi)

omit [FloatOps F] in
/-- The whole array, at one share, is its blocks. -/
theorem whole_rows (c : Dev nD) (q : PosShare TreeShare) (f : Arr (F := F)) :
    (((c : Thread nD τ).loc cc0_scratch0) ↦{q} f : sProp 𝕄) = bigSep Finset.univ fun o : Fin 16 => rows c (peer c o) q f := by
  refine Eq.trans (by rw [rowSet_cover c]) ((pointsTo_biUnion (ℓ := (c : Thread nD τ).loc cc0_scratch0) (q := q) (f := f) Finset.univ (fun o : Fin 16 => rowSet (peer c o))
    fun o _ o' _ h => rowSet_peer_disjoint c o o' h).trans ?_)
  exact bigSep_congr fun o _ => (rows_eq c (peer c o) q f).symm

/-- The share of transfer `o` in a block that is lent out sixteenfold (number zero stays at home). -/
abbrev part (o : Fin 16) : PosShare TreeShare := Transfers.dealOf fullShare (Finset.univ : Finset (Fin 16)) o

omit [FloatOps F] in
theorem rows_deal (c p : Dev nD) (f : Arr (F := F)) : (rows c p fullShare f : sProp 𝕄) = bigSep Finset.univ fun o : Fin 16 => rows c p (part o) f := by
  unfold rows; exact Transfers.pointsTo_deal Finset.univ ⟨0, Finset.mem_univ _⟩ fullShare

/-! ## Cells -/

/-- The barrier semaphore, and the two semaphores of the transfers. -/
abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The semaphores the kernel allocates, and all three the exchange uses. -/
abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- What one transfer of sixteen rows adds to a semaphore. -/
def N : ℕ := (rowM 0).view.dmaCredit
theorem N_pos : 0 < N := View.dmaCredit_pos _ (by decide)
theorem credit_eq (p : Dev nD) : (rowM p).view.dmaCredit = N := rfl

/-! ## What the devices compute before the exchange -/

/-- What device `c`'s copies of the tokens, the routing and its two experts hold when the body starts. -/
def xstg (c : Dev nD) : (cc0_stg0_0 : Ref sig .tc).ty.Contents (Elt F) :=
  (win0_0.blk (0 : Fin 1)).view.read (Elt F) ((s₀ m ρ).mem ((c : Thread nD τ).loc main_arg0))
def istg (c : Dev nD) : (cc0_stg1_0 : Ref sig .tc).ty.Contents (Elt F) :=
  (win0_1.blk (0 : Fin 1)).view.read (Elt F) ((s₀ m ρ).mem ((c : Thread nD τ).loc main_arg2))
def wstg (c : Dev nD) : (cc0_stg2_0 : Ref sig .tc).ty.Contents (Elt F) :=
  (win0_2.blk (0 : Fin 1)).view.read (Elt F) ((s₀ m ρ).mem ((c : Thread nD τ).loc main_arg3))

/-- The device's number as the program computes it. -/
abbrev devw (c : Dev nD) : BitVec 32 := Scalar.remsi (Scalar.divsi (Dev.word c) 1#32) 16#32

abbrev rW0 : Rect S2x128x256 := Rect.unit (s := S2x128x256) ![0, 0, 0] S1x128x256.size inb_S2x128x256_S1x128x256_0_0_0
abbrev rW1 : Rect S2x128x256 := Rect.unit (s := S2x128x256) ![1, 0, 0] S1x128x256.size inb_S2x128x256_S1x128x256_1_0_0

/-- The two halves of a device's rows, one expert each. -/
abbrev half0 (c : Dev nD) : FVec F S8x256 .bf16 := k0_pay7 (k0_pay5 (devw c) (istg m ρ c)) (xstg m ρ c) (wM.view.readAt (Elt F) rW0.toLoadRect (wstg m ρ c))
abbrev half1 (c : Dev nD) : FVec F S8x256 .bf16 := k0_pay8 (k0_pay5 (devw c) (istg m ρ c)) (xstg m ρ c) (wM.view.readAt (Elt F) rW1.toLoadRect (wstg m ρ c))

abbrev cell8 (i : S256x256.Idx) : S8x256.Idx := fun a => match a with
  | ⟨0, _⟩ => (⟨(i 0).val % 8, Nat.mod_lt _ (by decide)⟩ : Fin 8)
  | ⟨1, _⟩ => (⟨(i 1).val, (i 1).isLt⟩ : Fin 256)

/-- The whole array when every device's rows are in place: the same on every device. -/
def gathered : Arr (F := F) := fun (i : S256x256.Idx) =>
  if (i 0).val % 16 < 8 then half0 m ρ (devOf i) (cell8 i) else half1 m ρ (devOf i) (cell8 i)

/-- The result: every token's own row picked out of the gathered array. -/
def outAt (c : Dev nD) : (cc0_stg3_0 : Ref sig .tc).ty.Contents (Elt F) :=
  k0_pay10 (k0_pay9 (k0_pay1 (istg m ρ c)) (k0_pay3 (istg m ρ c)) (k0_pay4 (istg m ρ c))) (gathered m ρ)

/-- Reading one device's rows of the gathered array and writing them over the same rows of another array gives the gathered
    rows there. -/
theorem landed_eq (c d : Dev nD) (fd : Arr (F := F)) :
    rows d c fullShare ((rowM c).view.write (Elt F) fd ((rowM c).view.read (Elt F) (gathered m ρ)) Finset.univ)
      = (rows d c fullShare (gathered m ρ) : sProp 𝕄) := by
  unfold rows
  refine pointsTo_congr fun i hi => ?_
  rw [View.write_read_eq_piecewise]
  exact if_pos hi

/-! ## The schedule -/

/-- What partner `o` hands `c` at the barrier: the rows `c` will fill. -/
def barPay (c : Dev nD) (o : Fin 16) : sProp 𝕄 := iprop(∃ f, rows (peer c o) c fullShare f)
def recvPay (c : Dev nD) (o : Fin 16) : sProp 𝕄 := rows c (peer c o) fullShare (gathered m ρ)
def sendPay (c : Dev nD) (o : Fin 16) : sProp 𝕄 := rows c c (part o) (gathered m ρ)

abbrev IsCell (g : GSem nD τ sig) : Prop := g.1.2 = .tc ∧ (g.2 = .reg barS ∨ g.2 = .dma sendS.sem ∨ g.2 = .dma recvS.sem)

/-- One round: fifteen numbers at each cell, a unit each at the barrier and a transfer's credit each at the others. -/
def Rd : Rounds.Schedule (GSem nD τ sig) (Fin 16) 𝕄 where
  duties g r := if r = 0 ∧ IsCell g then offs else ∅
  unitless _ := False
  amount g _ _ := if g.2 = .reg barS then 1 else N
  payload g _ o :=
    if g.2 = .reg barS then barPay g.1.1 o
    else if g.2 = .dma recvS.sem then recvPay m ρ g.1.1 o
    else if g.2 = .dma sendS.sem then sendPay m ρ g.1.1 o
    else iprop(emp)
  amount_pos g _ _ _ := by
    by_cases h : g.2 = .reg barS
    · rw [if_pos h]; exact Nat.one_pos
    · rw [if_neg h]; exact N_pos

instance Rd_payload_storable (g : GSem nD τ sig) (r : ℕ) (o : Fin 16) :
    BI.Storable (upEmb : UEmb _ 𝕄) ((Rd (F := F) m ρ).payload g r o) := by
  show BI.Storable upEmb (if g.2 = .reg barS then barPay g.1.1 o else if g.2 = .dma recvS.sem then recvPay m ρ g.1.1 o
    else if g.2 = .dma sendS.sem then sendPay m ρ g.1.1 o else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide

theorem duties_cell (k : Fin 3) : (Rd (F := F) m ρ).duties (kcell (c, k)) 0 = offs := by
  dsimp only [Rd]
  refine if_pos ⟨rfl, rfl, ?_⟩
  fin_cases k
  · exact .inl rfl
  · exact .inr (.inl rfl)
  · exact .inr (.inr rfl)
theorem duties_bar : (Rd (F := F) m ρ).duties (barCell c) 0 = offs := duties_cell m ρ c 0
theorem duties_send : (Rd (F := F) m ρ).duties (sendCell c) 0 = offs := duties_cell m ρ c 1
theorem duties_recv : (Rd (F := F) m ρ).duties (recvCell c) 0 = offs := duties_cell m ρ c 2
theorem duties_later (g : GSem nD τ sig) : ∀ r, 1 ≤ r → (Rd (F := F) m ρ).duties g r = ∅ :=
  fun r hr => by dsimp only [Rd]; exact if_neg fun h => by omega

theorem amount_bar (o : Fin 16) : (Rd (F := F) m ρ).amount (barCell c) 0 o = 1 := by dsimp only [Rd]; exact if_pos rfl
theorem amount_send (o : Fin 16) : (Rd (F := F) m ρ).amount (sendCell c) 0 o = N := by dsimp only [Rd]; exact if_neg send_ne_bar
theorem amount_recv (o : Fin 16) : (Rd (F := F) m ρ).amount (recvCell c) 0 o = N := by dsimp only [Rd]; exact if_neg recv_ne_bar

theorem expect_bar : (Rd (F := F) m ρ).expect (barCell c) 0 = 15 := by
  unfold Schedule.expect Schedule.amountOf
  rw [duties_bar, Finset.sum_congr rfl fun o _ => amount_bar m ρ c o, Finset.sum_const]; rfl
theorem expect_send : (Rd (F := F) m ρ).expect (sendCell c) 0 = 15 * N := by
  unfold Schedule.expect Schedule.amountOf
  rw [duties_send, Finset.sum_congr rfl fun o _ => amount_send m ρ c o, Finset.sum_const]; rfl
theorem expect_recv : (Rd (F := F) m ρ).expect (recvCell c) 0 = 15 * N := by
  unfold Schedule.expect Schedule.amountOf
  rw [duties_recv, Finset.sum_congr rfl fun o _ => amount_recv m ρ c o, Finset.sum_const]; rfl

theorem payload_bar (o : Fin 16) : (Rd (F := F) m ρ).payload (barCell c) 0 o = barPay c o := by dsimp only [Rd]; rw [if_pos rfl]
theorem payload_send (o : Fin 16) : (Rd (F := F) m ρ).payload (sendCell c) 0 o = sendPay m ρ c o := by
  dsimp only [Rd]; rw [if_neg send_ne_bar, if_neg send_ne_recv, if_pos rfl]
theorem payload_recv (o : Fin 16) : (Rd (F := F) m ρ).payload (recvCell c) 0 o = recvPay m ρ c o := by
  dsimp only [Rd]; rw [if_neg recv_ne_bar, if_pos rfl]

end Sched

/-! ## What a device owes, and the order of the waits -/

/-- The units a device still owes its partners' barriers, the transfers it still owes their arrival counts. -/
def owB (c : Dev nD) : List (Fin 16) → CellTallies nD τ sig Unit
  | [] => 0
  | o :: os => owB c os + tallyAt (barCell (peer c o)) () 1
def owR (c : Dev nD) : List (Fin 16) → CellTallies nD τ sig Unit
  | [] => 0
  | o :: os => owR c os + tallyAt (recvCell (peer c o)) () N
def O₀ (c : Dev nD) : CellTallies nD τ sig Unit := owR c offL + owB c offL

def L (g : GSem nD τ sig) : Finset Unit := if g.1.2 = .tc then {()} else ∅
/-- Barriers first, then arrivals; everything else (the launch's own copies, what has been sent) is owed by nobody. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem owB_pos {c : Dev nD} {g : GSem nD τ sig} {u : Unit} : ∀ {os : List (Fin 16)}, 0 < owB c os g u → ∃ o, g = barCell (peer c o)
  | [], h => absurd h (Nat.lt_irrefl 0)
  | o :: os, h => by
    unfold owB at h
    rw [Pi.add_apply, Finsupp.add_apply, tallyAt_apply] at h
    by_cases hg : g = barCell (peer c o) ∧ u = ()
    · exact ⟨o, hg.1⟩
    · rw [if_neg hg, Nat.add_zero] at h; exact owB_pos h
theorem owR_pos {c : Dev nD} {g : GSem nD τ sig} {u : Unit} : ∀ {os : List (Fin 16)}, 0 < owR c os g u → ∃ o, g = recvCell (peer c o)
  | [], h => absurd h (Nat.lt_irrefl 0)
  | o :: os, h => by
    unfold owR at h
    rw [Pi.add_apply, Finsupp.add_apply, tallyAt_apply] at h
    by_cases hg : g = recvCell (peer c o) ∧ u = ()
    · exact ⟨o, hg.1⟩
    · rw [if_neg hg, Nat.add_zero] at h; exact owR_pos h
theorem O₀_pos {c : Dev nD} {g : GSem nD τ sig} {u : Unit} (h : 0 < O₀ c g u) :
    (∃ o, g = recvCell (peer c o)) ∨ ∃ o, g = barCell (peer c o) := by
  unfold O₀ at h
  rw [Pi.add_apply, Finsupp.add_apply] at h
  rcases Nat.eq_zero_or_pos (owR c offL g u) with h0 | h0
  · rw [h0, Nat.zero_add] at h; exact .inr (owB_pos h)
  · exact .inl (owR_pos h0)

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨o, rfl⟩ | ⟨o, rfl⟩ <;> exact Finset.mem_singleton_self _)
      (fun p hp => by rw [Finset.mem_singleton.mp hp]; dsimp only [lv]; rw [if_neg (fun h => by cases h), if_neg hq])
      (fun g u hg => by
        rcases O₀_pos hg with ⟨o, rfl⟩ | ⟨o, rfl⟩
        · dsimp only [lv]; rw [if_neg recv_ne_bar, if_pos rfl]; decide
        · dsimp only [lv]; rw [if_pos rfl]; decide)
  · rw [MayWait_zero]; iintro -; iempintro

omit [FloatOps F] in
/-- At its barrier a device owes arrivals only. -/
theorem mayWait_bar (c : Dev nD) (os : List (Fin 16)) :
    (levAts L lv : sProp 𝕄) ⊢ MayWait (c : Thread nD τ) (.reg barS) () (owR c os) :=
  MayOwe.of_cut (L := L) (lev := lv) 1 (fun p hp => by rw [Finset.mem_singleton.mp hp, L_tc]; exact Finset.mem_singleton_self _)
    (fun g u hg => by obtain ⟨o, rfl⟩ := owR_pos hg; exact Finset.mem_singleton_self _)
    (fun p hp => by rw [Finset.mem_singleton.mp hp]; dsimp only [lv]; rw [if_pos rfl])
    (fun g u hg => by obtain ⟨o, rfl⟩ := owR_pos hg; dsimp only [lv]; rw [if_neg recv_ne_bar, if_pos rfl]; decide)

end Cert.Exchange

end
-- ==== Proof.Steps.lean ====
/-
# One step of the exchange at a time

The program signals fifteen barriers, waits for fifteen signals, starts fifteen transfers, waits for fifteen arrivals and
for its fifteen transfers to be read. Each of the five has a state indexed by what is left to do and one lemma that takes a
single step; the kernel's text is then a walk through the states.
-/
module

public import proofs.«01_k».proof.Proof.Exchange

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The devices the program names -/

/-- The addressees of the signals, and of the transfers, in program order. -/
theorem sig_dev : ∀ (c : Dev nD) (j : Fin 15), (![k0_dev1 c, k0_dev2 c, k0_dev3 c, k0_dev4 c, k0_dev5 c, k0_dev6 c, k0_dev7 c, k0_dev8 c,
    k0_dev9 c, k0_dev10 c, k0_dev11 c, k0_dev12 c, k0_dev13 c, k0_dev14 c, k0_dev15 c] : Fin 15 → ℕ) j = (peer c j.succ).val := by decide +kernel
theorem put_dev : ∀ (c : Dev nD) (j : Fin 15), (![k0_dev16 c, k0_dev17 c, k0_dev18 c, k0_dev19 c, k0_dev20 c, k0_dev21 c, k0_dev22 c, k0_dev23 c,
    k0_dev24 c, k0_dev25 c, k0_dev26 c, k0_dev27 c, k0_dev28 c, k0_dev29 c, k0_dev30 c] : Fin 15 → ℕ) j = (peer c j.succ).val := by decide +kernel

/-! ## What everybody knows: the cells' invariants, and that each has started -/

def records (K : Dev nD × Fin 3 → ℕ) : sProp 𝕄 :=
  iprop((bigSep Finset.univ fun ck : Dev nD × Fin 3 => cellInv ER (Rd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) : records m ρ K ⊢ cellInv ER (Rd m ρ) (K ck) (kcell ck) := by
  unfold records
  iintro ⟨#H, -⟩
  iapply (show (bigSep Finset.univ fun ck : Dev nD × Fin 3 => (cellInv ER (Rd m ρ) (K ck) (kcell ck) : sProp 𝕄)) ⊢ cellInv ER (Rd m ρ) (K ck) (kcell ck) from
    bigSep_elim (Finset.mem_univ ck))
  iexact H
theorem reached_at (K : Dev nD × Fin 3 → ℕ) (ck : Dev nD × Fin 3) : records m ρ K ⊢ reached ER (kcell ck) 0 := by
  unfold records
  iintro ⟨-, #H⟩
  iapply (show (bigSep Finset.univ fun ck : Dev nD × Fin 3 => (reached ER (kcell ck) 0 : sProp 𝕄)) ⊢ reached ER (kcell ck) 0 from
    bigSep_elim (Finset.mem_univ ck))
  iexact H

/-! ## The states -/

theorem owB_cons (c : Dev nD) (o : Fin 16) (os : List (Fin 16)) : owB c (o :: os) = owB c os + tallyAt (barCell (peer c o)) () 1 := rfl
theorem sepL_cons {I : Type} (Φ : I → sProp 𝕄) (i : I) (l : List I) : sepL Φ (i :: l) = iprop(Φ i ∗ sepL Φ l) := rfl
theorem owR_cons (c : Dev nD) (o : Fin 16) (os : List (Fin 16)) : owR c (o :: os) = owR c os + tallyAt (recvCell (peer c o)) () N := rfl

/-- Signals `os` still to be given: the units owed, the right to give them, and the rows to lend with them. -/
def sigSt (c : Dev nD) (os : List (Fin 16)) : sProp 𝕄 :=
  iprop((∃ W, owes (c : Thread nD τ) (owR c offL + owB c os) W)
    ∗ sepL (fun o => iprop(dutyTok ER (barCell (peer c o)) 0 o ∗ ∃ f, rows c (peer c o) fullShare f)) os)

/-- Transfers `os` still to be started, `k` already running: for each, the right to pay both its ends, the share of the own
    rows it reads, and the partner's rows it fills. -/
def putSt (c : Dev nD) (k : ℕ) (os : List (Fin 16)) : sProp 𝕄 :=
  iprop((∃ W, owes (c : Thread nD τ) (owR c os) W)
    ∗ sepL (fun o => iprop((dutyTok ER (recvCell (peer c o)) 0 o ∗ dutyTok ER (sendCell c) 0 o)
        ∗ rows c c (part o) (gathered m ρ) ∗ ∃ f, rows (peer c o) c fullShare f)) os
    ∗ cred (tallyAt (sendCell c) () (k * N)))

/-- At one of the two transfer semaphores: `k` waits done, `j` to do, the payloads of some of the numbers in hand. -/
def drain (c : Dev nD) (s : Fin 3) (k j : ℕ) : sProp 𝕄 :=
  iprop((∃ W, owes (c : Thread nD τ) 0 W) ∗ cred (tallyAt (kcell (c, s)) () (j * N))
    ∗ ∃ S : Finset (Fin 16), ⌜S ⊆ offs⌝ ∗ atPos ER (kcell (c, s)) 0 S (k * N) ∗ bigSep S fun o => (Rd m ρ).payload (kcell (c, s)) 0 o)

variable (K : Dev nD × Fin 3 → ℕ)

section Steps

/-- One signal. -/
theorem step_signal {α : Type} {Kt : α → sProp 𝕄} {k : PUnit → Prog (TpuEff nD τ sig (Elt F) Λ₀ .tc) α}
    (c : Dev nD) (o : Fin 16) (os : List (Fin 16)) (ho : o ∈ offs) {n : Dev nD} (hn : n.val = (peer c o).val)
    {k' : ℕ} (hk' : k' = 1) :
    iprop(records m ρ K ∗ sigSt c (o :: os))
      ⊢ iprop((sigSt c os -∗ wp frame (wpE (defs₀ (F := F)) 𝒱₀ (c : Thread nD τ) none) Set.univ (k ⟨⟩) Kt)
          -∗ wp frame (wpE (defs₀ (F := F)) 𝒱₀ (c : Thread nD τ) none) Set.univ (.op (.semSignal (n : Thread nD τ) barS k') k) Kt) := by
  obtain rfl := Fin.ext hn
  unfold sigSt; rw [sepL_cons]
  iintro ⟨#HR, ⟨%W, HO⟩, ⟨Ht, Hrow⟩, Hrest⟩ Hk
  iapply (Rounds.wp_signal 𝒱₀ ER (Rd m ρ) (c : Thread nD τ) none (Q := Kt) (k := k) (dst := (peer c o : Thread nD τ)) (κ := K (peer c o, 0))
      (d := o) (O₀ := owR c offL + owB c (o :: os)) (W := W) (by rw [duties_bar]; exact ho) ((amount_bar m ρ (peer c o) o).trans hk'.symm) () (owR c offL + owB c os)
      (by subst hk'; rw [owB_cons, add_assoc])) $$ [HO Ht Hrow]
  · isplitr; · iapply (inv_at m ρ K (peer c o, 0)); iexact HR
    isplitl [HO]; · iexact HO
    isplitl [Ht]; · iexact Ht
    isplitl [Hrow]
    · rw [payload_bar]; unfold barPay; rw [peer_peer]; iexact Hrow
    · iapply (reached_at m ρ K (peer c o, 0)); iexact HR
  iintro HO
  iapply Hk
  isplitl [HO]; · iexists W; iexact HO
  iexact Hrest

/-- The barrier wait: every partner's rows come with it. -/
theorem step_barrier {α : Type} {Kt : α → sProp 𝕄} {k : PUnit → Prog (TpuEff nD τ sig (Elt F) Λ₀ .tc) α}
    (c : Dev nD) {k' : ℕ} (hk' : k' = 15) :
    iprop(records m ρ K ∗ levAts L lv ∗ cred (tallyAt (barCell c) () 15) ∗ sigSt c [] ∗ atPos ER (barCell c) 0 ∅ 0)
      ⊢ iprop((((∃ W, owes (c : Thread nD τ) (owR c offL) W) ∗ atPos ER (barCell c) 1 ∅ 0 ∗ bigSep offs fun o => barPay c o)
            -∗ wp frame (wpE (defs₀ (F := F)) 𝒱₀ (c : Thread nD τ) none) Set.univ (k ⟨⟩) Kt)
          -∗ wp frame (wpE (defs₀ (F := F)) 𝒱₀ (c : Thread nD τ) none) Set.univ (.op (.semWait barS k') k) Kt) := by
  subst hk'
  unfold sigSt
  rw [show owR c offL + owB c [] = owR c offL from add_zero _]
  iintro ⟨#HR, #Hlev, Hc, ⟨⟨%W, HO⟩, -⟩, Hat⟩ Hk
  iapply (Rounds.wp_wait_rest_token 𝒱₀ ER (Rd m ρ) (c : Thread nD τ) none (Q := Kt) (k := k) (κ := K (c, 0))
      (wpE_semWait_eq 𝒱₀ (c : Thread nD τ) none Set.univ) (Set.mem_univ _) () (O := owR c offL) (W := W) (R := 0) (m := 0) (T := ∅)
      (by rw [expect_bar])) $$ [Hc HO Hat]
  · isplitr; · iapply (inv_at m ρ K (c, 0)); iexact HR
    isplitl [Hc]; · iexact Hc
    isplitl [HO]; · iexact HO
    isplitr; · iapply (mayWait_bar c offL); iexact Hlev
    iexact Hat
  iintro ⟨HO, Hat, -, Hpay⟩
  iapply Hk
  isplitl [HO]; · iexists _; iexact HO
  isplitl [Hat]; · iexact Hat
  rw [← BI.bigSep_congr (s := offs) fun o _ => payload_bar m ρ c o, ← duties_bar m ρ c, ← Finset.sdiff_empty (s := (Rd m ρ).duties (barCell c) 0)]
  iexact Hpay

/-- One transfer. -/
theorem step_put {α : Type} {Kt : α → sProp 𝕄} {k : PUnit → Prog (TpuEff nD τ sig (Elt F) Λ₀ .tc) α}
    (c : Dev nD) (o : Fin 16) (os : List (Fin 16)) (j : ℕ) (ho : o ∈ offs) {n : Dev nD} (hn : n.val = (peer c o).val)
    {hsc : (rowM c : Memref sig (Dev.tc n : Thread nD τ).2.kind .vmem S16x256 .bf16).view.ref.isScScratch = false}
    {hsrc : (rowM c).view.WordExact} {hdst : (rowM c : Memref sig .tc .vmem S16x256 .bf16).view.WordExact}
    {hsem : DmaTarget.Typed .vmem (.dma recvS.sem) (.remote (Dev.tc n : Thread nD τ) (rowM c : Memref sig .tc .vmem S16x256 .bf16) (.dma sendS.sem) hsc)} :
    iprop(records m ρ K ∗ putSt m ρ c j (o :: os))
      ⊢ iprop((putSt m ρ c (j + 1) os -∗ wp frame (wpE (defs₀ (F := F)) 𝒱₀ (c : Thread nD τ) none) Set.univ (k ⟨⟩) Kt)
          -∗ wp frame (wpE (defs₀ (F := F)) 𝒱₀ (c : Thread nD τ) none) Set.univ
              (.op (.enqueueDma (rowM c) (.remote (Dev.tc n : Thread nD τ) (rowM c) (.dma sendS.sem) hsc) (.dma recvS.sem) hsrc hdst hsem) k) Kt) := by
  obtain rfl := Fin.ext hn
  unfold putSt; rw [sepL_cons]
  iintro ⟨#HR, ⟨%W, HO⟩, ⟨⟨⟨HtV, HtS⟩, Hsrc, ⟨%fd, Hdst⟩⟩, Hrest⟩, Hc⟩ Hk
  iapply (Rounds.wp_send_pointsTo 𝒱₀ ER (Rd m ρ) (c : Thread nD τ) none (Q := Kt) (k := k) (κ₁ := K (c, 1)) (κ₂ := K (peer c o, 2))
    (c' := (peer c o : Thread nD τ)) (src := rowM c) (dst := rowM c) (sS := .dma sendS.sem) (sem := .dma recvS.sem) (r₁ := 0) (r₂ := 0) (d₁ := o) (d₂ := o) (fd := fd) (fs := gathered m ρ) (q := part o)
    (by rw [duties_send]; exact ho) (by rw [duties_recv]; exact ho)
    () () N (credit_eq c) (amount_send m ρ c o) (amount_recv m ρ (peer c o) o) (O₀ := owR c (o :: os)) (owR c os) (owR_cons c o os) (W := W)
    (by rw [payload_send]; unfold sendPay rows; exact BI.Entails.refl _)
    (by
      rw [payload_recv]; unfold recvPay; rw [peer_peer, ← landed_eq m ρ c (peer c o) fd]; unfold rows; exact BI.Entails.refl _)) $$ [HO HtV HtS Hsrc Hdst]
  · unfold rows
    isplitr; · iapply (inv_at m ρ K (c, 1)); iexact HR
    isplitr; · iapply (inv_at m ρ K (peer c o, 2)); iexact HR
    isplitl [Hsrc]; · iexact Hsrc
    isplitl [Hdst]; · iexact Hdst
    isplitl [HO]; · iexact HO
    isplitl [HtS]; · iexact HtS
    isplitr; · iapply (reached_at m ρ K (c, 1)); iexact HR
    isplitl [HtV]; · iexact HtV
    iapply (reached_at m ρ K (peer c o, 2)); iexact HR
  iintro ⟨Hc', HO⟩
  iapply Hk
  isplitl [HO]; · iexists W; iexact HO
  isplitl [Hrest]; · iexact Hrest
  rw [show (j + 1) * N = j * N + N from Nat.succ_mul j N, ← tallyAt_add]
  iapply (cred_add _ _).2
  isplitl [Hc] <;> iassumption

theorem expect_xfer (c : Dev nD) {s : Fin 3} (hs : s ≠ 0) : (Rd (F := F) m ρ).expect (kcell (c, s)) 0 = 15 * N := by
  fin_cases s
  · exact absurd rfl hs
  · exact expect_send m ρ c
  · exact expect_recv m ρ c

/-- One wait at a transfer semaphore, more to come. -/
theorem step_drain {α : Type} {Kt : α → sProp 𝕄} {k : PUnit → Prog (TpuEff nD τ sig (Elt F) Λ₀ .tc) α}
    (c : Dev nD) {s : Fin 3} (hs : s ≠ 0) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem s) N K) (i j : ℕ) :
    iprop(records m ρ K ∗ drain m ρ c s i (j + 1))
      ⊢ iprop((drain m ρ c s (i + 1) j -∗ wp frame (wpE (defs₀ (F := F)) 𝒱₀ (c : Thread nD τ) none) Set.univ (k ⟨⟩) Kt)
          -∗ wp frame (wpE (defs₀ (F := F)) 𝒱₀ (c : Thread nD τ) none) Set.univ (.op w k) Kt) := by
  unfold drain
  rw [show (j + 1) * N = j * N + N from Nat.succ_mul j N, ← tallyAt_add, BI.Entails.antisymm (cred_add _ _).1 (cred_add _ _).2]
  iintro ⟨#HR, ⟨%W, HO⟩, ⟨Hc, Hc'⟩, ⟨%S, %hS, Hat, Hpay⟩⟩ Hk
  iapply (Rounds.wp_wait 𝒱₀ ER (Rd m ρ) (c : Thread nD τ) none (Q := Kt) (k := k) (κ := K (c, s)) hw (Set.mem_univ _) {(csem s, ())}
      (cr := Finsupp.single () N) (O := 0) (W := W) (R := 0) (m := i * N) (T := S) (Util.total_single _ _) (image_single_subset (csem s) () N)) $$ [HO Hc' Hat]
  · isplitr; · iapply (inv_at m ρ K (c, s)); iexact HR
    isplitl [Hc']; · iexact Hc'
    isplitl [HO]; · iexact HO
    isplitr; · rw [MayOwe_zero]; iempintro
    iexact Hat
  iintro %S' ⟨%h, HO, Hat, Hnew⟩
  iapply Hk
  isplitl [HO]; · iexists _; iexact HO
  isplitl [Hc]; · iexact Hc
  iexists S'
  isplitr; · ipureintro; exact (duties_cell m ρ c s) ▸ h.2.1
  isplitl [Hat]; · rw [show (i + 1) * N = i * N + N from Nat.succ_mul i N]; iexact Hat
  rw [show (bigSep S' fun o => (Rd m ρ).payload (kcell (c, s)) 0 o) = iprop((bigSep S fun o => (Rd m ρ).payload (kcell (c, s)) 0 o)
    ∗ bigSep (S' \ S) fun o => (Rd m ρ).payload (kcell (c, s)) 0 o) from BI.bigSep_sdiff_split h.1]
  isplitl [Hpay] <;> iassumption

/-- The last of the fifteen waits: every number's payload. -/
theorem end_drain {α : Type} {Kt : α → sProp 𝕄} {k : PUnit → Prog (TpuEff nD τ sig (Elt F) Λ₀ .tc) α}
    (c : Dev nD) {s : Fin 3} (hs : s ≠ 0) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem s) N K) :
    iprop(records m ρ K ∗ drain m ρ c s 14 1)
      ⊢ iprop((((∃ W, owes (c : Thread nD τ) 0 W) ∗ atPos ER (kcell (c, s)) 1 ∅ 0 ∗ bigSep offs fun o => (Rd m ρ).payload (kcell (c, s)) 0 o)
            -∗ wp frame (wpE (defs₀ (F := F)) 𝒱₀ (c : Thread nD τ) none) Set.univ (k ⟨⟩) Kt)
          -∗ wp frame (wpE (defs₀ (F := F)) 𝒱₀ (c : Thread nD τ) none) Set.univ (.op w k) Kt) := by
  unfold drain
  rw [one_mul]
  iintro ⟨#HR, ⟨%W, HO⟩, Hc, ⟨%S, %hS, Hat, Hpay⟩⟩ Hk
  iapply (Rounds.wp_wait_rest_token 𝒱₀ ER (Rd m ρ) (c : Thread nD τ) none (Q := Kt) (k := k) (κ := K (c, s)) hw (Set.mem_univ _) ()
      (O := 0) (W := W) (R := 0) (m := 14 * N) (T := S) (by rw [expect_xfer m ρ c hs]; omega)) $$ [HO Hc Hat]
  · isplitr; · iapply (inv_at m ρ K (c, s)); iexact HR
    isplitl [Hc]; · iexact Hc
    isplitl [HO]; · iexact HO
    isplitr; · rw [MayWait_zero]; iempintro
    iexact Hat
  iintro ⟨HO, Hat, -, Hnew⟩
  iapply Hk
  isplitl [HO]; · iexists _; iexact HO
  isplitl [Hat]; · iexact Hat
  rw [duties_cell m ρ c s]
  rw [show (bigSep offs fun o => (Rd m ρ).payload (kcell (c, s)) 0 o) = iprop((bigSep S fun o => (Rd m ρ).payload (kcell (c, s)) 0 o)
    ∗ bigSep (offs \ S) fun o => (Rd m ρ).payload (kcell (c, s)) 0 o) from BI.bigSep_sdiff_split hS]
  isplitl [Hpay] <;> iassumption

end Steps

end Cert.Exchange

end
-- ==== Proof.Body.lean ====
/-
# One device's run of the kernel body

The printed function comes in ten parts; each has a lemma that takes it from one state of the exchange to the next, and the
whole body is their composition.
-/
module

public import proofs.«01_k».proof.Proof.Steps
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The own rows, written in two halves -/

abbrev rHalf (c : Dev nD) (r : Fin 2) : Rect S256x256 :=
  Rect.unit (s := S256x256) (k0_off1 c (BitVec.ofNat 32 (8 * r.val))) S8x256.size (k0_off1_inb c r)

theorem half_sub (c : Dev nD) (r : Fin 2) : (cM.access (rHalf c r)).set ⊆ rowSet c := by
  intro i hi
  have hi' := (Finset.ext_iff.mp (View.set_slice_whole cc0_scratch0 _) i).mp hi
  rw [Rect.mem_set_unit, k0_off1_eq] at hi'
  have h0 := hi' 0
  change 16 * c.val + 8 * r.val ≤ (i 0).val ∧ (i 0).val < 16 * c.val + 8 * r.val + 8 at h0
  rw [mem_rowSet]
  have := r.isLt
  omega

/-- An eight-row block written at the rows of one half: those rows read it, the others are untouched. -/
theorem half_write (c : Dev nD) (r : Fin 2) (f : Arr (F := F)) (w : FVec F S8x256 .bf16) (i : S256x256.Idx) :
    (cM.access (rHalf c r)).write (Elt F) f w Finset.univ i
      = if 16 * c.val + 8 * r.val ≤ (i 0).val ∧ (i 0).val < 16 * c.val + 8 * r.val + 8 then w (cell8 i) else f i := by
  refine (congrFun (View.write_whole_slice_unit cc0_scratch0 _ _ _ f w) i).trans ?_
  unfold updateSlice
  have key : (∀ a, k0_off1 c (BitVec.ofNat 32 (8 * r.val)) a ≤ (i a).val ∧ (i a).val < k0_off1 c (BitVec.ofNat 32 (8 * r.val)) a + S8x256.size a)
      ↔ (16 * c.val + 8 * r.val ≤ (i 0).val ∧ (i 0).val < 16 * c.val + 8 * r.val + 8) := by
    rw [k0_off1_eq]
    constructor
    · exact fun h => h 0
    · intro h a
      match a with
      | ⟨0, _⟩ => exact h
      | ⟨1, _⟩ => exact ⟨Nat.zero_le _, by show (i 1).val < 0 + 256; rw [Nat.zero_add]; exact (i 1).isLt⟩
  by_cases h : 16 * c.val + 8 * r.val ≤ (i 0).val ∧ (i 0).val < 16 * c.val + 8 * r.val + 8
  · rw [if_pos h]
    refine (dif_pos (key.mpr h)).trans (congrArg w (funext fun a => ?_))
    match a with
    | ⟨0, _⟩ =>
      apply Fin.ext
      show (i 0).val - k0_off1 c (BitVec.ofNat 32 (8 * r.val)) 0 = (i 0).val % 8
      rw [k0_off1_eq]
      show (i 0).val - (16 * c.val + 8 * r.val) = (i 0).val % 8
      omega
    | ⟨1, _⟩ =>
      apply Fin.ext
      show (i 1).val - k0_off1 c (BitVec.ofNat 32 (8 * r.val)) 1 = (i 1).val
      rw [k0_off1_eq]
      rfl
  · rw [if_neg h]; exact dif_neg fun h' => h (key.mp h')

/-- The two halves written, the own rows are those of the gathered array. -/
theorem own_written (c : Dev nD) (f : Arr (F := F)) (i : S256x256.Idx) (hi : (i 0).val / 16 = c.val) :
    (cM.access (rHalf c 1)).write (Elt F) ((cM.access (rHalf c 0)).write (Elt F) f (half0 m ρ c) Finset.univ) (half1 m ρ c) Finset.univ i
      = gathered m ρ i := by
  have hd : devOf i = c := Fin.ext hi
  rw [half_write, half_write]
  unfold gathered
  rw [hd]
  show (if 16 * c.val + 8 * 1 ≤ (i 0).val ∧ (i 0).val < 16 * c.val + 8 * 1 + 8 then half1 m ρ c (cell8 i)
    else if 16 * c.val + 8 * 0 ≤ (i 0).val ∧ (i 0).val < 16 * c.val + 8 * 0 + 8 then half0 m ρ c (cell8 i) else f i) = _
  by_cases h : (i 0).val % 16 < 8
  · rw [if_neg (by omega), if_pos (by omega), if_pos h]
  · rw [if_pos (by omega), if_neg h]

/-! ## Whole-buffer accesses -/

omit [FloatOps F] in
theorem hz : (![0, 0] : Fin 2 → Nat) = fun _ => 0 := funext fun a => by fin_cases a <;> rfl
omit [FloatOps F] in
theorem read_x (f : (cc0_stg0_0 : Ref sig .tc).ty.Contents (Elt F)) :
    xM.view.readAt (Elt F) (Rect.unit (s := S256x128) ![0, 0] S256x128.size inb_S256x128_S256x128_0_0).toLoadRect f = f :=
  Memref.readAt_unit_zero (Elt F) cc0_stg0_0 hz _ f
omit [FloatOps F] in
theorem read_i (f : (cc0_stg1_0 : Ref sig .tc).ty.Contents (Elt F)) :
    iM.view.readAt (Elt F) (Rect.unit (s := S256x1) ![0, 0] S256x1.size inb_S256x1_S256x1_0_0).toLoadRect f = f :=
  Memref.readAt_unit_zero (Elt F) cc0_stg1_0 hz _ f
omit [FloatOps F] in
theorem read_c (f : Arr (F := F)) :
    cM.view.readAt (Elt F) (Rect.unit (s := S256x256) ![0, 0] S256x256.size inb_S256x256_S256x256_0_0).toLoadRect f = f :=
  Memref.readAt_unit_zero (Elt F) cc0_scratch0 hz _ f
omit [FloatOps F] in
theorem write_o (f w : (cc0_stg3_0 : Ref sig .tc).ty.Contents (Elt F)) :
    (oM.access (Rect.unit (s := S256x256) ![0, 0] S256x256.size inb_S256x256_S256x256_0_0)).write (Elt F) f w Finset.univ = w :=
  Memref.write_access_unit_zero_univ (Elt F) cc0_stg3_0 hz _ f w

/-! ## The steps, indexed by how many are done -/

variable (K : Dev nD × Fin 3 → ℕ)

theorem offL_drop (j : Fin 15) : offL.drop j.val = j.succ :: offL.drop (j.val + 1) := by revert j; decide
theorem succ_mem (j : Fin 15) : j.succ ∈ offs := by revert j; decide

section Steps

variable {c : Dev nD}

theorem sig_step (j : ℕ) (hj : j < 15) {n : Dev nD} (hn : n.val = (peer c (⟨j, hj⟩ : Fin 15).succ).val)
    {α : Type} {k : PUnit → Prog (TpuEff nD τ sig (Elt F) Λ₀ .tc) α} {Kt : α → sProp 𝕄} :
    iprop(records m ρ K ∗ sigSt c (offL.drop j))
      ⊢ iprop((sigSt c (offL.drop (j + 1)) -∗ wp frame (wpE (defs₀ (F := F)) 𝒱₀ (c : Thread nD τ) none) Set.univ (k ⟨⟩) Kt)
          -∗ wp frame (wpE (defs₀ (F := F)) 𝒱₀ (c : Thread nD τ) none) Set.univ (.op (.semSignal (n : Thread nD τ) barS (1#32).toInt) k) Kt) := by
  rw [offL_drop ⟨j, hj⟩]
  exact step_signal m ρ K c _ _ (succ_mem _) hn rfl

theorem put_step (j : ℕ) (hj : j < 15) {n : Dev nD} (hn : n.val = (peer c (⟨j, hj⟩ : Fin 15).succ).val)
    {α : Type} {k : PUnit → Prog (TpuEff nD τ sig (Elt F) Λ₀ .tc) α} {Kt : α → sProp 𝕄}
    {hsc : (rowM c : Memref sig (Dev.tc n : Thread nD τ).2.kind .vmem S16x256 .bf16).view.ref.isScScratch = false}
    {hsrc : (rowM c).view.WordExact} {hdst : (rowM c : Memref sig .tc .vmem S16x256 .bf16).view.WordExact}
    {hsem : DmaTarget.Typed .vmem (.dma recvS.sem) (.remote (Dev.tc n : Thread nD τ) (rowM c : Memref sig .tc .vmem S16x256 .bf16) (.dma sendS.sem) hsc)} :
    iprop(records m ρ K ∗ putSt m ρ c j (offL.drop j))
      ⊢ iprop((putSt m ρ c (j + 1) (offL.drop (j + 1)) -∗ wp frame (wpE (defs₀ (F := F)) 𝒱₀ (c : Thread nD τ) none) Set.univ (k ⟨⟩) Kt)
          -∗ wp frame (wpE (defs₀ (F := F)) 𝒱₀ (c : Thread nD τ) none) Set.univ
              (.op (.enqueueDma (rowM c) (.remote (Dev.tc n : Thread nD τ) (rowM c) (.dma sendS.sem) hsc) (.dma recvS.sem) hsrc hdst hsem) k) Kt) := by
  rw [offL_drop ⟨j, hj⟩]
  exact step_put m ρ K c _ _ j (succ_mem _) hn

theorem arr_step (i j : ℕ) {α : Type} {k : PUnit → Prog (TpuEff nD τ sig (Elt F) Λ₀ .tc) α} {Kt : α → sProp 𝕄}
    {h₁ : (rowM c).view.WordExact} {h₂ : (rowM c).view.WordExact} :
    iprop(records m ρ K ∗ drain m ρ c 2 i (j + 1))
      ⊢ iprop((drain m ρ c 2 (i + 1) j -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 recvS.sem (rowM c) (rowM c) h₁ h₂) k) Kt) := by
  refine step_drain m ρ K c (s := 2) (by decide) (w := .waitDma2 recvS.sem (rowM c) (rowM c) h₁ h₂) (fun K' => ?_) i j
  rw [← credit_eq c]
  exact wpE_waitDma2_eq 𝒱₀ (c : Thread nD τ) none Set.univ K'

theorem snt_step (i j : ℕ) {α : Type} {k : PUnit → Prog (TpuEff nD τ sig (Elt F) Λ₀ .tc) α} {Kt : α → sProp 𝕄}
    {h₁ : (rowM c).view.WordExact} {h₂ : (rowM c).view.WordExact} :
    iprop(records m ρ K ∗ drain m ρ c 1 i (j + 1))
      ⊢ iprop((drain m ρ c 1 (i + 1) j -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 sendS.sem (rowM c) (rowM c) h₁ h₂) k) Kt) := by
  refine step_drain m ρ K c (s := 1) (by decide) (w := .waitDma2 sendS.sem (rowM c) (rowM c) h₁ h₂) (fun K' => ?_) i j
  rw [← credit_eq c]
  exact wpE_waitDma2_eq 𝒱₀ (c : Thread nD τ) none Set.univ K'

theorem recv_end {α : Type} {k : PUnit → Prog (TpuEff nD τ sig (Elt F) Λ₀ .tc) α} {Kt : α → sProp 𝕄}
    {h₁ : (rowM c).view.WordExact} {h₂ : (rowM c).view.WordExact} :
    iprop(records m ρ K ∗ drain m ρ c 2 14 1)
      ⊢ iprop((((∃ W, owes (c : Thread nD τ) 0 W) ∗ atPos ER (recvCell c) 1 ∅ 0 ∗ bigSep offs fun o => rows c (peer c o) fullShare (gathered m ρ))
            -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 recvS.sem (rowM c) (rowM c) h₁ h₂) k) Kt) := by
  rw [show (bigSep offs fun o => rows c (peer c o) fullShare (gathered m ρ)) = bigSep offs fun o => (Rd m ρ).payload (recvCell c) 0 o from
    (BI.bigSep_congr fun o _ => payload_recv m ρ c o).symm]
  refine end_drain m ρ K c (s := 2) (by decide) (w := .waitDma2 recvS.sem (rowM c) (rowM c) h₁ h₂) (fun K' => ?_)
  rw [← credit_eq c]
  exact wpE_waitDma2_eq 𝒱₀ (c : Thread nD τ) none Set.univ K'

theorem send_end {α : Type} {k : PUnit → Prog (TpuEff nD τ sig (Elt F) Λ₀ .tc) α} {Kt : α → sProp 𝕄}
    {h₁ : (rowM c).view.WordExact} {h₂ : (rowM c).view.WordExact} :
    iprop(records m ρ K ∗ drain m ρ c 1 14 1)
      ⊢ iprop((((∃ W, owes (c : Thread nD τ) 0 W) ∗ atPos ER (sendCell c) 1 ∅ 0 ∗ bigSep offs fun o => rows c c (part o) (gathered m ρ))
            -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 sendS.sem (rowM c) (rowM c) h₁ h₂) k) Kt) := by
  rw [show (bigSep offs fun o => rows c c (part o) (gathered m ρ)) = bigSep offs fun o => (Rd m ρ).payload (sendCell c) 0 o from
    (BI.bigSep_congr fun o _ => payload_send m ρ c o).symm]
  refine end_drain m ρ K c (s := 1) (by decide) (w := .waitDma2 sendS.sem (rowM c) (rowM c) h₁ h₂) (fun K' => ?_)
  rw [← credit_eq c]
  exact wpE_waitDma2_eq 𝒱₀ (c : Thread nD τ) none Set.univ K'

end Steps

/-- Before the first of the fifteen waits. -/
theorem drain_start (c : Dev nD) (s : Fin 3) :
    iprop((∃ W, owes (c : Thread nD τ) 0 W) ∗ cred (tallyAt (kcell (c, s)) () (15 * N)) ∗ atPos ER (kcell (c, s)) 0 ∅ 0)
      ⊢ drain m ρ c s 0 15 := by
  unfold drain
  iintro ⟨HO, Hc, Hat⟩
  isplitl [HO]; · iexact HO
  isplitl [Hc]; · iexact Hc
  iexists ∅
  isplitr; · ipureintro; exact Finset.empty_subset _
  rw [Nat.zero_mul, bigSep_empty]
  isplitl [Hat]; · iexact Hat
  iempintro

/-! ## The parts -/

section Parts

variable (c : Dev nD)

/-- The barrier's semaphores, as the program names them. -/
abbrev barA : Sems sig S_ := SemArray.scalar (sig.barrier 0 rfl)

abbrev xPt : sProp 𝕄 := ((c : Thread nD τ).loc cc0_stg0_0) ↦{fullShare} (xstg m ρ c)
abbrev iPt : sProp 𝕄 := ((c : Thread nD τ).loc cc0_stg1_0) ↦{fullShare} (istg m ρ c)
abbrev wPt : sProp 𝕄 := ((c : Thread nD τ).loc cc0_stg2_0) ↦{fullShare} (wstg m ρ c)

theorem part1 (Kt : _ → sProp 𝕄) :
    iprop(records m ρ K ∗ sigSt c (offL.drop 0) ∗ (∀ v, sigSt c (offL.drop 6) -∗ Kt ⟨c, devw c, barA, v⟩))
      ⊢ wp frame (wpE (defs₀ (F := F)) 𝒱₀ (c : Thread nD τ) none) Set.univ
          (k0_part1 xM (Memref.isWhole_whole _) iM (Memref.isWhole_whole _) wM (Memref.isWhole_whole _) oM (Memref.isWhole_whole _)
            cM (Memref.isWhole_whole _) cc0_scratch1 cc0_scratch2) Kt := by
  rw [k0_part1_eq_skeleton]; unfold k0_part1_skel
  simp only [semSignalWord, Prog.lift, Prog.bind_op, Prog.bind_ret, Prog.pure_eq_ret, wp_deviceId]
  iintro ⟨#HR, HS, Hk⟩
  iapply (sig_step m ρ K (c := c) 0 (by decide) (n := ⟨k0_dev1 c, k0_dev1_lt c⟩) (sig_dev c 0)) $$ [HS]; · isplitr <;> iassumption
  iintro HS
  iapply (sig_step m ρ K (c := c) 1 (by decide) (n := ⟨k0_dev2 c, k0_dev2_lt c⟩) (sig_dev c 1)) $$ [HS]; · isplitr <;> iassumption
  iintro HS
  iapply (sig_step m ρ K (c := c) 2 (by decide) (n := ⟨k0_dev3 c, k0_dev3_lt c⟩) (sig_dev c 2)) $$ [HS]; · isplitr <;> iassumption
  iintro HS
  iapply (sig_step m ρ K (c := c) 3 (by decide) (n := ⟨k0_dev4 c, k0_dev4_lt c⟩) (sig_dev c 3)) $$ [HS]; · isplitr <;> iassumption
  iintro HS
  iapply (sig_step m ρ K (c := c) 4 (by decide) (n := ⟨k0_dev5 c, k0_dev5_lt c⟩) (sig_dev c 4)) $$ [HS]; · isplitr <;> iassumption
  iintro HS
  iapply (sig_step m ρ K (c := c) 5 (by decide) (n := ⟨k0_dev6 c, k0_dev6_lt c⟩) (sig_dev c 5)) $$ [HS]; · isplitr <;> iassumption
  iintro HS
  rw [wp_ret]; imodintro
  iapply Hk; iexact HS

theorem part2 (v : BitVec 32) (Kt : _ → sProp 𝕄) :
    iprop(records m ρ K ∗ sigSt c (offL.drop 6) ∗ (∀ v, sigSt c (offL.drop 14) -∗ Kt v))
      ⊢ wp frame (wpE (defs₀ (F := F)) 𝒱₀ (c : Thread nD τ) none) Set.univ
          (k0_part2 xM (Memref.isWhole_whole _) iM (Memref.isWhole_whole _) wM (Memref.isWhole_whole _) oM (Memref.isWhole_whole _)
            cM (Memref.isWhole_whole _) cc0_scratch1 cc0_scratch2 c (devw c) barA v) Kt := by
  rw [k0_part2_eq_skeleton]; unfold k0_part2_skel
  simp only [semSignalWord, semWaitWord, Prog.lift, Prog.bind_op, Prog.bind_ret, Prog.pure_eq_ret]
  iintro ⟨#HR, HS, Hk⟩
  iapply (sig_step m ρ K (c := c) 6 (by decide) (n := ⟨k0_dev7 c, k0_dev7_lt c⟩) (sig_dev c 6)) $$ [HS]; · isplitr <;> iassumption
  iintro HS
  iapply (sig_step m ρ K (c := c) 7 (by decide) (n := ⟨k0_dev8 c, k0_dev8_lt c⟩) (sig_dev c 7)) $$ [HS]; · isplitr <;> iassumption
  iintro HS
  iapply (sig_step m ρ K (c := c) 8 (by decide) (n := ⟨k0_dev9 c, k0_dev9_lt c⟩) (sig_dev c 8)) $$ [HS]; · isplitr <;> iassumption
  iintro HS
  iapply (sig_step m ρ K (c := c) 9 (by decide) (n := ⟨k0_dev10 c, k0_dev10_lt c⟩) (sig_dev c 9)) $$ [HS]; · isplitr <;> iassumption
  iintro HS
  iapply (sig_step m ρ K (c := c) 10 (by decide) (n := ⟨k0_dev11 c, k0_dev11_lt c⟩) (sig_dev c 10)) $$ [HS]; · isplitr <;> iassumption
  iintro HS
  iapply (sig_step m ρ K (c := c) 11 (by decide) (n := ⟨k0_dev12 c, k0_dev12_lt c⟩) (sig_dev c 11)) $$ [HS]; · isplitr <;> iassumption
  iintro HS
  iapply (sig_step m ρ K (c := c) 12 (by decide) (n := ⟨k0_dev13 c, k0_dev13_lt c⟩) (sig_dev c 12)) $$ [HS]; · isplitr <;> iassumption
  iintro HS
  iapply (sig_step m ρ K (c := c) 13 (by decide) (n := ⟨k0_dev14 c, k0_dev14_lt c⟩) (sig_dev c 13)) $$ [HS]; · isplitr <;> iassumption
  iintro HS
  rw [wp_ret]; imodintro
  iapply Hk; iexact HS

theorem part3 (v : BitVec 32) (Kt : _ → sProp 𝕄) :
    iprop(records m ρ K ∗ sigSt c (offL.drop 14) ∗ iPt m ρ c
        ∗ (sigSt c (offL.drop 15) -∗ iPt m ρ c -∗ Kt ⟨k0_pay1 (istg m ρ c), k0_pay3 (istg m ρ c), k0_pay4 (istg m ρ c), k0_pay5 (devw c) (istg m ρ c)⟩))
      ⊢ wp frame (wpE (defs₀ (F := F)) 𝒱₀ (c : Thread nD τ) none) Set.univ
          (k0_part3 xM (Memref.isWhole_whole _) iM (Memref.isWhole_whole _) wM (Memref.isWhole_whole _) oM (Memref.isWhole_whole _)
            cM (Memref.isWhole_whole _) cc0_scratch1 cc0_scratch2 c (devw c) barA v) Kt := by
  rw [k0_part3_eq_skeleton]; unfold k0_part3_skel
  simp only [semSignalWord, semWaitWord, Prog.lift, Prog.bind_op, Prog.bind_ret, Prog.pure_eq_ret]
  iintro ⟨#HR, HS, Hi, Hk⟩
  iapply (sig_step m ρ K (c := c) 14 (by decide) (n := ⟨k0_dev15 c, k0_dev15_lt c⟩) (sig_dev c 14)) $$ [HS]; · isplitr <;> iassumption
  iintro HS
  iapply (wp_load 𝒱₀ (c : Thread nD τ) none Set.univ (m := iM) (Finset.subset_univ _)) $$ Hi; iintro Hi
  rw [read_i, wp_ret]; imodintro
  iapply Hk $$ HS Hi

/-- The rights to pay both ends of each transfer. -/
def toks : sProp 𝕄 := sepL (fun o => iprop(dutyTok ER (recvCell (peer c o)) 0 o ∗ dutyTok ER (sendCell c) 0 o)) offL

omit [FloatOps F] in
theorem sepL_join {I : Type} (Φ Ψ : I → sProp 𝕄) : ∀ l : List I, iprop(sepL Φ l ∗ sepL Ψ l) ⊢ sepL (fun i => iprop(Φ i ∗ Ψ i)) l
  | [] => by unfold sepL; iintro -; iempintro
  | i :: l => by
    unfold sepL
    iintro ⟨⟨H1, H2⟩, H3, H4⟩
    isplitl [H1 H3]; · isplitl [H1] <;> iassumption
    iapply (sepL_join Φ Ψ l); isplitl [H2] <;> iassumption

omit [FloatOps F] in
theorem sepL_mono {I : Type} (Φ Ψ : I → sProp 𝕄) (h : ∀ i, Φ i ⊢ Ψ i) : ∀ l : List I, sepL Φ l ⊢ sepL Ψ l
  | [] => BI.Entails.refl _
  | i :: l => BI.sep_mono (h i) (sepL_mono Φ Ψ h l)

/-- The own rows and the partners' rows in hand, everything is ready for the transfers; the share numbered zero stays. -/
theorem put_ready :
    iprop((∃ W, owes (c : Thread nD τ) (owR c offL) W) ∗ toks c ∗ rows c c fullShare (gathered m ρ) ∗ bigSep offs fun o => barPay c o)
      ⊢ iprop(rows c c (part 0) (gathered m ρ) ∗ putSt m ρ c 0 (offL.drop 0)) := by
  rw [rows_deal, bigSep_all, bigSep_offs, bigSep_offs]
  unfold toks putSt
  rw [Nat.zero_mul, tallyAt_zero, cred_zero]
  iintro ⟨HO, Ht, ⟨H0, Hs⟩, Hb⟩
  isplitl [H0]; · iexact H0
  isplitl [HO]; · iexact HO
  isplitl [Ht Hs Hb]
  · iapply (sepL_join _ _ _)
    isplitl [Ht]; · iexact Ht
    iapply (sepL_join _ _ _)
    isplitl [Hs]; · iexact Hs
    iexact Hb
  iempintro

theorem part4 (Kt : _ → sProp 𝕄) :
    iprop(records m ρ K ∗ levAts L lv ∗ cred (tallyAt (barCell c) () 15) ∗ sigSt c (offL.drop 15) ∗ atPos ER (barCell c) 0 ∅ 0 ∗ toks c
        ∗ (∃ f, rows c c fullShare f) ∗ xPt m ρ c ∗ wPt m ρ c
        ∗ (∀ v, (xPt m ρ c ∗ wPt m ρ c ∗ rows c c (part 0) (gathered m ρ) ∗ atPos ER (barCell c) 1 ∅ 0 ∗ putSt m ρ c 1 (offL.drop 1)) -∗ Kt v))
      ⊢ wp frame (wpE (defs₀ (F := F)) 𝒱₀ (c : Thread nD τ) none) Set.univ
          (k0_part4 xM (Memref.isWhole_whole _) iM (Memref.isWhole_whole _) wM (Memref.isWhole_whole _) oM (Memref.isWhole_whole _)
            cM (Memref.isWhole_whole _) cc0_scratch1 cc0_scratch2 c (devw c) barA (k0_pay5 (devw c) (istg m ρ c))) Kt := by
  rw [k0_part4_eq_skeleton]; unfold k0_part4_skel
  simp only [semSignalWord, semWaitWord, Prog.lift, Prog.bind_op, Prog.bind_ret, Prog.pure_eq_ret]
  iintro ⟨#HR, #Hlev, Hc, HS, Hat, Ht, ⟨%f, Hr⟩, Hx, Hw, Hk⟩
  ihave Hr := (Entails.of_eq (rows_eq c c fullShare f)) $$ Hr
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  iapply (wp_load_rect 𝒱₀ (c : Thread nD τ) none Set.univ (m := cM) (r := rHalf c 0) (S := rowSet c) (half_sub c 0)) $$ Hr; iintro Hr
  iapply (wp_store 𝒱₀ (c : Thread nD τ) none Set.univ (m := cM) (r := rHalf c 0) (Mk := Finset.univ) (S := rowSet c) (half_sub c 0)) $$ Hr; iintro Hr
  iapply (wp_load 𝒱₀ (c : Thread nD τ) none Set.univ (m := wM) (Finset.subset_univ _)) $$ Hw; iintro Hw
  iapply (wp_load_rect 𝒱₀ (c : Thread nD τ) none Set.univ (m := cM) (r := rHalf c 1) (S := rowSet c) (half_sub c 1)) $$ Hr; iintro Hr
  iapply (wp_store 𝒱₀ (c : Thread nD τ) none Set.univ (m := cM) (r := rHalf c 1) (Mk := Finset.univ) (S := rowSet c) (half_sub c 1)) $$ Hr; iintro Hr
  ihave Hr := (Entails.of_eq ((rows_eq c c fullShare _).symm.trans (rows_congr c c fullShare _ (gathered m ρ) (own_written m ρ c f)))) $$ Hr
  iapply (step_barrier m ρ K c (k' := 15) rfl) $$ [Hc HS Hat]
  · isplitr; · iexact HR
    isplitr; · iexact Hlev
    isplitl [Hc]; · iexact Hc
    isplitl [HS]; · iexact HS
    iexact Hat
  iintro ⟨HO, Hat, Hb⟩
  ihave Hp := (put_ready m ρ c) $$ [HO Ht Hr Hb]
  · isplitl [HO]; · iexact HO
    isplitl [Ht]; · iexact Ht
    isplitl [Hr] <;> iassumption
  icases Hp with ⟨H0, HP⟩
  iapply (put_step m ρ K (c := c) 0 (by decide) (n := ⟨k0_dev16 c, k0_dev16_lt c⟩) (put_dev c 0)) $$ [HP]; · isplitr <;> iassumption
  iintro HP
  rw [wp_ret]; imodintro
  iapply Hk
  isplitl [Hx]; · iexact Hx
  isplitl [Hw]; · iexact Hw
  isplitl [H0]; · iexact H0
  isplitl [Hat] <;> iassumption

theorem part5 (Kt : _ → sProp 𝕄) :
    iprop(records m ρ K ∗ putSt m ρ c 1 (offL.drop 1) ∗ (∀ v, putSt m ρ c 6 (offL.drop 6) -∗ Kt v))
      ⊢ wp frame (wpE (defs₀ (F := F)) 𝒱₀ (c : Thread nD τ) none) Set.univ
          (k0_part5 xM (Memref.isWhole_whole _) iM (Memref.isWhole_whole _) wM (Memref.isWhole_whole _) oM (Memref.isWhole_whole _)
            cM (Memref.isWhole_whole _) cc0_scratch1 cc0_scratch2 c (devw c)) Kt := by
  rw [k0_part5_eq_skeleton]; unfold k0_part5_skel
  simp only [semSignalWord, semWaitWord, Prog.lift, Prog.bind_op, Prog.bind_ret, Prog.pure_eq_ret]
  iintro ⟨#HR, HP, Hk⟩
  iapply (put_step m ρ K (c := c) 1 (by decide) (n := ⟨k0_dev17 c, k0_dev17_lt c⟩) (put_dev c 1)) $$ [HP]; · isplitr <;> iassumption
  iintro HP
  iapply (put_step m ρ K (c := c) 2 (by decide) (n := ⟨k0_dev18 c, k0_dev18_lt c⟩) (put_dev c 2)) $$ [HP]; · isplitr <;> iassumption
  iintro HP
  iapply (put_step m ρ K (c := c) 3 (by decide) (n := ⟨k0_dev19 c, k0_dev19_lt c⟩) (put_dev c 3)) $$ [HP]; · isplitr <;> iassumption
  iintro HP
  iapply (put_step m ρ K (c := c) 4 (by decide) (n := ⟨k0_dev20 c, k0_dev20_lt c⟩) (put_dev c 4)) $$ [HP]; · isplitr <;> iassumption
  iintro HP
  iapply (put_step m ρ K (c := c) 5 (by decide) (n := ⟨k0_dev21 c, k0_dev21_lt c⟩) (put_dev c 5)) $$ [HP]; · isplitr <;> iassumption
  iintro HP
  rw [wp_ret]; imodintro
  iapply Hk; iexact HP

theorem part6 (v w : BitVec 32) (Kt : _ → sProp 𝕄) :
    iprop(records m ρ K ∗ putSt m ρ c 6 (offL.drop 6) ∗ (∀ v, putSt m ρ c 11 (offL.drop 11) -∗ Kt v))
      ⊢ wp frame (wpE (defs₀ (F := F)) 𝒱₀ (c : Thread nD τ) none) Set.univ
          (k0_part6 xM (Memref.isWhole_whole _) iM (Memref.isWhole_whole _) wM (Memref.isWhole_whole _) oM (Memref.isWhole_whole _)
            cM (Memref.isWhole_whole _) cc0_scratch1 cc0_scratch2 c (devw c) v w) Kt := by
  rw [k0_part6_eq_skeleton]; unfold k0_part6_skel
  simp only [semSignalWord, semWaitWord, Prog.lift, Prog.bind_op, Prog.bind_ret, Prog.pure_eq_ret]
  iintro ⟨#HR, HP, Hk⟩
  iapply (put_step m ρ K (c := c) 6 (by decide) (n := ⟨k0_dev22 c, k0_dev22_lt c⟩) (put_dev c 6)) $$ [HP]; · isplitr <;> iassumption
  iintro HP
  iapply (put_step m ρ K (c := c) 7 (by decide) (n := ⟨k0_dev23 c, k0_dev23_lt c⟩) (put_dev c 7)) $$ [HP]; · isplitr <;> iassumption
  iintro HP
  iapply (put_step m ρ K (c := c) 8 (by decide) (n := ⟨k0_dev24 c, k0_dev24_lt c⟩) (put_dev c 8)) $$ [HP]; · isplitr <;> iassumption
  iintro HP
  iapply (put_step m ρ K (c := c) 9 (by decide) (n := ⟨k0_dev25 c, k0_dev25_lt c⟩) (put_dev c 9)) $$ [HP]; · isplitr <;> iassumption
  iintro HP
  iapply (put_step m ρ K (c := c) 10 (by decide) (n := ⟨k0_dev26 c, k0_dev26_lt c⟩) (put_dev c 10)) $$ [HP]; · isplitr <;> iassumption
  iintro HP
  rw [wp_ret]; imodintro
  iapply Hk; iexact HP

theorem part7 (v50 : IVec S256x1 32) (v64 : IVec S256x1 1) (v67 : IVec S256x1 32) (v120 : BitVec 32) (Kt : _ → sProp 𝕄) :
    iprop(records m ρ K ∗ putSt m ρ c 11 (offL.drop 11) ∗ cred (tallyAt (recvCell c) () (15 * N)) ∗ atPos ER (recvCell c) 0 ∅ 0
        ∗ ((drain m ρ c 2 1 14 ∗ cred (tallyAt (sendCell c) () (15 * N))) -∗ Kt (k0_pay9 v50 v64 v67)))
      ⊢ wp frame (wpE (defs₀ (F := F)) 𝒱₀ (c : Thread nD τ) none) Set.univ
          (k0_part7 xM (Memref.isWhole_whole _) iM (Memref.isWhole_whole _) wM (Memref.isWhole_whole _) oM (Memref.isWhole_whole _)
            cM (Memref.isWhole_whole _) cc0_scratch1 cc0_scratch2 c (devw c) v50 v64 v67 v120) Kt := by
  rw [k0_part7_eq_skeleton]; unfold k0_part7_skel
  simp only [semSignalWord, semWaitWord, Prog.lift, Prog.bind_op, Prog.bind_ret, Prog.pure_eq_ret]
  iintro ⟨#HR, HP, Hc, Hat, Hk⟩
  iapply (put_step m ρ K (c := c) 11 (by decide) (n := ⟨k0_dev27 c, k0_dev27_lt c⟩) (put_dev c 11)) $$ [HP]; · isplitr <;> iassumption
  iintro HP
  iapply (put_step m ρ K (c := c) 12 (by decide) (n := ⟨k0_dev28 c, k0_dev28_lt c⟩) (put_dev c 12)) $$ [HP]; · isplitr <;> iassumption
  iintro HP
  iapply (put_step m ρ K (c := c) 13 (by decide) (n := ⟨k0_dev29 c, k0_dev29_lt c⟩) (put_dev c 13)) $$ [HP]; · isplitr <;> iassumption
  iintro HP
  iapply (put_step m ρ K (c := c) 14 (by decide) (n := ⟨k0_dev30 c, k0_dev30_lt c⟩) (put_dev c 14)) $$ [HP]; · isplitr <;> iassumption
  iintro HP
  ihave HP := (show putSt m ρ c 15 (offL.drop 15) ⊢ iprop((∃ W, owes (c : Thread nD τ) 0 W) ∗ emp ∗ cred (tallyAt (sendCell c) () (15 * N))) from BI.Entails.refl _) $$ HP
  icases HP with ⟨HO, -, Hcs⟩
  ihave HV := (drain_start m ρ c 2) $$ [HO Hc Hat]
  · isplitl [HO]; · iexact HO
    isplitl [Hc] <;> iassumption
  iapply (arr_step m ρ K (c := c) 0 14) $$ [HV]; · isplitr <;> iassumption
  iintro HV
  rw [wp_ret]; imodintro
  iapply Hk
  isplitl [HV] <;> iassumption

theorem part8 (v : BitVec 32) (Kt : _ → sProp 𝕄) :
    iprop(records m ρ K ∗ drain m ρ c 2 1 14 ∗ (∀ v, drain m ρ c 2 8 7 -∗ Kt v))
      ⊢ wp frame (wpE (defs₀ (F := F)) 𝒱₀ (c : Thread nD τ) none) Set.univ
          (k0_part8 xM (Memref.isWhole_whole _) iM (Memref.isWhole_whole _) wM (Memref.isWhole_whole _) oM (Memref.isWhole_whole _)
            cM (Memref.isWhole_whole _) cc0_scratch1 cc0_scratch2 c v) Kt := by
  rw [k0_part8_eq_skeleton]; unfold k0_part8_skel
  simp only [semSignalWord, semWaitWord, Prog.lift, Prog.bind_op, Prog.bind_ret, Prog.pure_eq_ret]
  iintro ⟨#HR, HV, Hk⟩
  iapply (arr_step m ρ K (c := c) 1 13) $$ [HV]; · isplitr <;> iassumption
  iintro HV
  iapply (arr_step m ρ K (c := c) 2 12) $$ [HV]; · isplitr <;> iassumption
  iintro HV
  iapply (arr_step m ρ K (c := c) 3 11) $$ [HV]; · isplitr <;> iassumption
  iintro HV
  iapply (arr_step m ρ K (c := c) 4 10) $$ [HV]; · isplitr <;> iassumption
  iintro HV
  iapply (arr_step m ρ K (c := c) 5 9) $$ [HV]; · isplitr <;> iassumption
  iintro HV
  iapply (arr_step m ρ K (c := c) 6 8) $$ [HV]; · isplitr <;> iassumption
  iintro HV
  iapply (arr_step m ρ K (c := c) 7 7) $$ [HV]; · isplitr <;> iassumption
  iintro HV
  rw [wp_ret]; imodintro
  iapply Hk; iexact HV

theorem part9 (v w : BitVec 32) (Kt : _ → sProp 𝕄) :
    iprop(records m ρ K ∗ drain m ρ c 2 8 7 ∗ (∀ v, drain m ρ c 2 14 1 -∗ Kt v))
      ⊢ wp frame (wpE (defs₀ (F := F)) 𝒱₀ (c : Thread nD τ) none) Set.univ
          (k0_part9 xM (Memref.isWhole_whole _) iM (Memref.isWhole_whole _) wM (Memref.isWhole_whole _) oM (Memref.isWhole_whole _)
            cM (Memref.isWhole_whole _) cc0_scratch1 cc0_scratch2 c v w) Kt := by
  rw [k0_part9_eq_skeleton]; unfold k0_part9_skel
  simp only [semSignalWord, semWaitWord, Prog.lift, Prog.bind_op, Prog.bind_ret, Prog.pure_eq_ret]
  iintro ⟨#HR, HV, Hk⟩
  iapply (arr_step m ρ K (c := c) 8 6) $$ [HV]; · isplitr <;> iassumption
  iintro HV
  iapply (arr_step m ρ K (c := c) 9 5) $$ [HV]; · isplitr <;> iassumption
  iintro HV
  iapply (arr_step m ρ K (c := c) 10 4) $$ [HV]; · isplitr <;> iassumption
  iintro HV
  iapply (arr_step m ρ K (c := c) 11 3) $$ [HV]; · isplitr <;> iassumption
  iintro HV
  iapply (arr_step m ρ K (c := c) 12 2) $$ [HV]; · isplitr <;> iassumption
  iintro HV
  iapply (arr_step m ρ K (c := c) 13 1) $$ [HV]; · isplitr <;> iassumption
  iintro HV
  rw [wp_ret]; imodintro
  iapply Hk; iexact HV

/-- Every block at share zero is the whole array at that share; the rest is kept aside and joined again. -/
theorem lend_eq : (iprop(rows c c (part 0) (gathered m ρ) ∗ bigSep offs fun o => rows c (peer c o) fullShare (gathered m ρ)) : sProp 𝕄)
    = iprop((((c : Thread nD τ).loc cc0_scratch0) ↦{part 0} gathered m ρ)
        ∗ bigSep offs fun o => bigSep offs fun p => rows c (peer c o) (part p) (gathered m ρ)) := by
  rw [whole_rows c (part 0), bigSep_all, peer_zero,
    BI.bigSep_congr (s := offs) (fun o _ => (rows_deal c (peer c o) (gathered m ρ)).trans (bigSep_all fun p => rows c (peer c o) (part p) (gathered m ρ))),
    BI.bigSep_sep']
  exact BI.Entails.antisymm (sep_assoc (PROP := sProp 𝕄)).2 (sep_assoc (PROP := sProp 𝕄)).1

theorem part10 (v : FVec F S256x256 .bf16) (Kt : _ → sProp 𝕄) :
    iprop(records m ρ K ∗ drain m ρ c 2 14 1 ∗ cred (tallyAt (sendCell c) () (15 * N)) ∗ atPos ER (sendCell c) 0 ∅ 0
        ∗ rows c c (part 0) (gathered m ρ) ∗ (∃ f, ((c : Thread nD τ).loc cc0_stg3_0) ↦{fullShare} f)
        ∗ ((drain m ρ c 1 8 7 ∗ atPos ER (recvCell c) 1 ∅ 0 ∗ (rows c c (part 0) (gathered m ρ) ∗ bigSep offs fun o => rows c (peer c o) fullShare (gathered m ρ))
            ∗ (((c : Thread nD τ).loc cc0_stg3_0) ↦{fullShare} (k0_pay10 v (gathered m ρ) : (cc0_stg3_0 : Ref sig .tc).ty.Contents (Elt F)))) -∗ Kt ⟨⟩))
      ⊢ wp frame (wpE (defs₀ (F := F)) 𝒱₀ (c : Thread nD τ) none) Set.univ
          (k0_part10 xM (Memref.isWhole_whole _) iM (Memref.isWhole_whole _) wM (Memref.isWhole_whole _) oM (Memref.isWhole_whole _)
            cM (Memref.isWhole_whole _) cc0_scratch1 cc0_scratch2 c v) Kt := by
  rw [k0_part10_eq_skeleton]; unfold k0_part10_skel
  simp only [semSignalWord, semWaitWord, Prog.lift, Prog.bind_op, Prog.bind_ret, Prog.pure_eq_ret]
  iintro ⟨#HR, HV, Hcs, Hats, H0, ⟨%fo, Ho⟩, Hk⟩
  iapply (recv_end m ρ K (c := c)) $$ [HV]; · isplitr <;> iassumption
  iintro ⟨HO, Hat, Hpay⟩
  ihave Hl := (Entails.of_eq (lend_eq m ρ c)) $$ [H0 Hpay]; · isplitl [H0] <;> iassumption
  icases Hl with ⟨Hwh, Hrest⟩
  iapply (wp_load 𝒱₀ (c : Thread nD τ) none Set.univ (m := cM) (Finset.subset_univ _)) $$ Hwh; iintro Hwh
  rw [read_c]
  ihave Hl := (Entails.of_eq (lend_eq m ρ c).symm) $$ [Hwh Hrest]; · isplitl [Hwh] <;> iassumption
  iapply (wp_load 𝒱₀ (c : Thread nD τ) none Set.univ (m := oM) (Finset.subset_univ _)) $$ Ho; iintro Ho
  iapply (wp_store 𝒱₀ (c : Thread nD τ) none Set.univ (m := oM) (r := Rect.unit (s := S256x256) ![0, 0] S256x256.size inb_S256x256_S256x256_0_0) (Mk := Finset.univ) (Finset.subset_univ _)) $$ Ho; iintro Ho
  rw [write_o]
  ihave HD := (drain_start m ρ c 1) $$ [HO Hcs Hats]
  · isplitl [HO]; · iexact HO
    isplitl [Hcs] <;> iassumption
  iapply (snt_step m ρ K (c := c) 0 14) $$ [HD]; · isplitr <;> iassumption
  iintro HD
  iapply (snt_step m ρ K (c := c) 1 13) $$ [HD]; · isplitr <;> iassumption
  iintro HD
  iapply (snt_step m ρ K (c := c) 2 12) $$ [HD]; · isplitr <;> iassumption
  iintro HD
  iapply (snt_step m ρ K (c := c) 3 11) $$ [HD]; · isplitr <;> iassumption
  iintro HD
  iapply (snt_step m ρ K (c := c) 4 10) $$ [HD]; · isplitr <;> iassumption
  iintro HD
  iapply (snt_step m ρ K (c := c) 5 9) $$ [HD]; · isplitr <;> iassumption
  iintro HD
  iapply (snt_step m ρ K (c := c) 6 8) $$ [HD]; · isplitr <;> iassumption
  iintro HD
  iapply (snt_step m ρ K (c := c) 7 7) $$ [HD]; · isplitr <;> iassumption
  iintro HD
  rw [wp_ret]; imodintro
  iapply Hk
  isplitl [HD]; · iexact HD
  isplitl [Hat]; · iexact Hat
  isplitl [Hl]; · iexact Hl
  iexact Ho

end Parts

end Cert.Exchange

end
-- ==== Proof.Run.lean ====
/-
# The whole run

The pipeline's data for the one call, the body against it, what the launch deals every device, and the run of the program:
every result array holds `outAt`, the arguments are unchanged and every counter is back at zero.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The rights a device pays with: its number at every partner's barrier and arrivals, its own count of transfers sent. -/
def payToks (c : Dev nD) : sProp 𝕄 :=
  iprop((bigSep Finset.univ fun o : Fin 16 => dutyTok ER (barCell (peer c o)) 0 o)
    ∗ (bigSep Finset.univ fun o : Fin 16 => dutyTok ER (sendCell c) 0 o)
    ∗ (bigSep Finset.univ fun o : Fin 16 => dutyTok ER (recvCell (peer c o)) 0 o))

/-- Device `c`'s positions at its three cells, and what it pays with. -/
def linear (c : Dev nD) : sProp 𝕄 :=
  iprop((atPos ER (barCell c) 0 ∅ 0 ∗ atPos ER (sendCell c) 0 ∅ 0 ∗ atPos ER (recvCell c) 0 ∅ 0) ∗ payToks c)

def ghost (K : Dev nD × Fin 3 → ℕ) (c : Dev nD) : sProp 𝕄 := iprop(records m ρ K ∗ linear c)

def start (c : Dev nD) : sProp 𝕄 :=
  iprop((∃ K, ghost m ρ K c) ∗ cred (tallyAt (barCell c) () 15) ∗ cred (tallyAt (recvCell c) () (15 * N)) ∗ levAts L lv)

abbrev scr (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m ρ c ∗ scr c)
def Φ₁ (c : Dev nD) : sProp 𝕄 := iprop(scr c ∗ semVal (sendCell c) 0 ∗ semVal (recvCell c) 0 ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => istg m ρ c
    | ⟨2, _⟩ => wstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ c ∗ (dats m ρ 0 c).owesAt () t₀.succ ∗ stg c cc0_stg0_0 (xstg m ρ c) ∗ stg c cc0_stg1_0 (istg m ρ c)
    ∗ stg c cc0_stg2_0 (wstg m ρ c) ∗ stg c cc0_stg3_0 (outAt m ρ c))

omit [FloatOps F] in
/-- At the start: the scratch array is the own rows and the rows to lend, the latter each with the right to signal. -/
theorem ready (c : Dev nD) : iprop(scr c ∗ payToks c ∗ ∃ W, owes (c : Thread nD τ) (O₀ c) W)
    ⊢ (iprop((∃ f, rows c c fullShare f) ∗ sigSt c (offL.drop 0) ∗ toks c) : sProp 𝕄) := by
  unfold payToks scr sigSt toks O₀
  rw [bigSep_all, bigSep_all, bigSep_all, bigSep_offs, bigSep_offs, bigSep_offs]
  iintro ⟨⟨%f, Hs⟩, ⟨⟨-, HB⟩, ⟨-, HS⟩, ⟨-, HV⟩⟩, HO⟩
  ihave Hs := (Entails.of_eq ((whole_rows c fullShare f).trans ((bigSep_all _).trans (by rw [bigSep_offs, peer_zero])))) $$ Hs
  icases Hs with ⟨H0, Hr⟩
  isplitl [H0]; · iexists f; iexact H0
  isplitl [HO HB Hr]
  · isplitl [HO]; · iexact HO
    iapply (sepL_join _ _ _)
    isplitl [HB]; · iexact HB
    iapply (sepL_mono (fun o => rows c (peer c o) fullShare f) _ (fun o => by iintro H; iexists f; iexact H) offL)
    iexact Hr
  iapply (sepL_join _ _ _)
  isplitl [HV] <;> iassumption

/-- At the end: the own rows, back from the transfers, and the others' rows are the whole array. -/
theorem whole_again (c : Dev nD) :
    iprop((rows c c (part 0) (gathered m ρ) ∗ bigSep offs fun o => rows c (peer c o) fullShare (gathered m ρ)) ∗ bigSep offs fun o => rows c c (part o) (gathered m ρ))
      ⊢ scr c := by
  unfold scr
  iintro ⟨⟨H0, Hr⟩, Hs⟩
  ihave Ho := (Entails.of_eq ((rows_deal c c (gathered m ρ)).trans (bigSep_all _)).symm) $$ [H0 Hs]
  · isplitl [H0] <;> iassumption
  iexists gathered m ρ
  iapply (Entails.of_eq ((whole_rows c fullShare (gathered m ρ)).trans ((bigSep_all _).trans (by rw [peer_zero]))).symm)
  isplitl [Ho] <;> iassumption

set_option maxHeartbeats 800000 in
/-- The body, part after part. -/
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ
          (cc0_body xM (Memref.isWhole_whole _) iM (Memref.isWhole_whole _) wM (Memref.isWhole_whole _) oM (Memref.isWhole_whole _)
            cM (Memref.isWhole_whole _) cc0_scratch1 cc0_scratch2) Kt := by
  rw [cc0_body_eq_skeleton]; unfold cc0_body_skel
  simp only [Prog.lift, wp_bind, Prog.bind_op, Prog.bind_ret, Prog.pure_eq_ret]
  unfold bodyPre Φ₀ start ghost linear
  iintro ⟨⟨⟨⟨⟨%K, #HR, ⟨HaB, HaS, HaV⟩, Htok⟩, HcB, HcV, #Hlev⟩, Hscr⟩, Ho, ⟨%d0, %g0, %hg0, Hx⟩, ⟨%d1, %g1, %hg1, Hi⟩, ⟨%d2, %g2, %hg2, Hw⟩, ⟨%d3, %g3, %hg3, Hout⟩⟩, Hk⟩
  have hx : g0 = xstg m ρ c := by rw [hg0]; unfold Dat.before; rw [if_pos (fetch0_0 t₀)]; rfl
  have hi : g1 = istg m ρ c := by rw [hg1]; unfold Dat.before; rw [if_pos (fetch0_1 t₀)]; rfl
  have hw : g2 = wstg m ρ c := by rw [hg2]; unfold Dat.before; rw [if_pos (fetch0_2 t₀)]; rfl
  subst hx hi hw
  unfold Dat.owesAt Pipeline.owesWithin
  icases Ho with ⟨%W, %hW, HO⟩
  rw [show (dats m ρ 0 c).owed t₀.castSucc = O₀ c from rfl]
  ihave Hrd := (ready (F := F) c) $$ [Hscr Htok HO]
  · isplitl [Hscr]; · iexact Hscr
    isplitl [Htok]; · iexact Htok
    iexists W; iexact HO
  icases Hrd with ⟨Hown, HS, Htok⟩
  iapply (part1 m ρ K c _)
  isplitr; · iexact HR
  isplitl [HS]; · iexact HS
  iintro %v23 HS
  iapply (part2 m ρ K c v23 _)
  isplitr; · iexact HR
  isplitl [HS]; · iexact HS
  iintro %v15 HS
  iapply (part3 m ρ K c v15 _)
  isplitr; · iexact HR
  isplitl [HS]; · iexact HS
  isplitl [Hi]; · iexact Hi
  iintro HS Hi
  iapply (part4 m ρ K c _)
  isplitr; · iexact HR
  isplitr; · iexact Hlev
  isplitl [HcB]; · iexact HcB
  isplitl [HS]; · iexact HS
  isplitl [HaB]; · iexact HaB
  isplitl [Htok]; · iexact Htok
  isplitl [Hown]; · iexact Hown
  isplitl [Hx]; · iexact Hx
  isplitl [Hw]; · iexact Hw
  iintro %v120 ⟨Hx, Hw, H0, HaB, HP⟩
  iapply (part5 m ρ K c _)
  isplitr; · iexact HR
  isplitl [HP]; · iexact HP
  iintro %v151 HP
  iapply (part6 m ρ K c _ _ _)
  isplitr; · iexact HR
  isplitl [HP]; · iexact HP
  iintro %_ HP
  iapply (part7 m ρ K c _ _ _ _ _)
  isplitr; · iexact HR
  isplitl [HP]; · iexact HP
  isplitl [HcV]; · iexact HcV
  isplitl [HaV]; · iexact HaV
  iintro ⟨HV, HcS⟩
  iapply (part8 m ρ K c _ _)
  isplitr; · iexact HR
  isplitl [HV]; · iexact HV
  iintro %v238 HV
  iapply (part9 m ρ K c _ _ _)
  isplitr; · iexact HR
  isplitl [HV]; · iexact HV
  iintro %_ HV
  iapply (part10 m ρ K c _ _)
  isplitr; · iexact HR
  isplitl [HV]; · iexact HV
  isplitl [HcS]; · iexact HcS
  isplitl [HaS]; · iexact HaS
  isplitl [H0]; · iexact H0
  isplitl [Hout]; · iexists g3; iexact Hout
  iintro ⟨HD, HaV, Hl, Hout⟩
  iapply (snt_step m ρ K (c := c) 8 6) $$ [HD]; · isplitr <;> iassumption
  iintro HD
  iapply (snt_step m ρ K (c := c) 9 5) $$ [HD]; · isplitr <;> iassumption
  iintro HD
  iapply (snt_step m ρ K (c := c) 10 4) $$ [HD]; · isplitr <;> iassumption
  iintro HD
  iapply (snt_step m ρ K (c := c) 11 3) $$ [HD]; · isplitr <;> iassumption
  iintro HD
  iapply (snt_step m ρ K (c := c) 12 2) $$ [HD]; · isplitr <;> iassumption
  iintro HD
  iapply (snt_step m ρ K (c := c) 13 1) $$ [HD]; · isplitr <;> iassumption
  iintro HD
  iapply (send_end m ρ K (c := c)) $$ [HD]; · isplitr <;> iassumption
  iintro ⟨⟨%W', HO⟩, HaS, Hs⟩
  ihave Hscr := (whole_again m ρ c) $$ [Hl Hs]; · isplitl [Hl] <;> iassumption
  imod (Rounds.cell_close ER (Rd m ρ) (Set.mem_univ (K (c, 1))) (fun h => h) (R := 0 + 1) (duties_later m ρ (sendCell c))) $$ [HaS] with HzS
  · isplitr; · iapply (inv_at m ρ K (c, 1)); iexact HR
    iexact HaS
  imod (Rounds.cell_close ER (Rd m ρ) (Set.mem_univ (K (c, 2))) (fun h => h) (R := 0 + 1) (duties_later m ρ (recvCell c))) $$ [HaV] with HzV
  · isplitr; · iapply (inv_at m ρ K (c, 2)); iexact HR
    iexact HaV
  imod (Rounds.cell_close ER (Rd m ρ) (Set.mem_univ (K (c, 0))) (fun h => h) (R := 0 + 1) (duties_later m ρ (barCell c))) $$ [HaB] with HzB
  · isplitr; · iapply (inv_at m ρ K (c, 0)); iexact HR
    iexact HaB
  rw [wp_ret]; imodintro
  iapply Hk
  unfold bodyPost Φ₁ Dat.owesAt Pipeline.owesWithin
  rw [show (dats m ρ 0 c).owed t₀.succ = 0 from rfl]
  isplitl [Hscr HzS HzV HzB]
  · isplitl [Hscr]; · iexact Hscr
    isplitl [HzS]; · iexact HzS
    isplitl [HzV] <;> iassumption
  isplitl [HO]
  · iexists W'
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

set_option maxRecDepth 20000 in
/-- The library's obligation on the body. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ
    (cc0_body xM (Memref.isWhole_whole _) iM (Memref.isWhole_whole _) wM (Memref.isWhole_whole _) oM (Memref.isWhole_whole _)
      cM (Memref.isWhole_whole _) cc0_scratch1 cc0_scratch2) (fun _ => bodyPost m ρ c)
  iintro H
  iapply (sound_body m ρ c fun _ => bodyPost m ρ c)
  isplitl [H]; · iexact H
  iintro H; iexact H

end Cert.Exchange

end
-- ==== Proof.Launch.lean ====
/-
# The launch

What every device is dealt at the start: the accounts of its three cells, its rights to pay its partners' and its own, and
the credit of what its partners owe it. Then the run of the whole program: every array the pipeline moves ends at
`finalA`, the routing table is unchanged and every counter is back at zero.
-/
module

public import proofs.«01_k».proof.Proof.Run
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state at the start -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 3 → GSem nD τ sig) := fun a b h =>
  Prod.ext (congrArg (fun g : GSem nD τ sig => g.1.1) h) (csem_injective (congrArg Prod.snd h))

def allCells : Finset (GSem nD τ sig) := Finset.univ.map ⟨kcell, kcell_injective⟩

/-- One right per cell and offset. -/
abbrev tokOf (x : Dev nD × Fin 3 × Fin 16) : GSem nD τ sig × ℕ × Fin 16 := (kcell (x.1, x.2.1), 0, x.2.2)
theorem tokOf_injective : Function.Injective tokOf := fun a b h => by
  have h1 := kcell_injective (congrArg Prod.fst h)
  exact Prod.ext (congrArg (fun y : Dev nD × Fin 3 => y.1) h1) (Prod.ext (congrArg (fun y : Dev nD × Fin 3 => y.2) h1)
    (congrArg (fun y : GSem nD τ sig × ℕ × Fin 16 => y.2.2) h))
def allToks : Finset (GSem nD τ sig × ℕ × Fin 16) := Finset.univ.map ⟨tokOf, tokOf_injective⟩

def u₀ : UU :=
  (initOf (Pipeline.cells cfgs cellOf_inj) (Pipeline.launchToks cfgs cellOf_inj), initOf allCells allToks)

/-- The rights at device `c`'s own cell of kind `k`. -/
def ownToks (k : Fin 3) (c : Dev nD) : sProp 𝕄 := bigSep Finset.univ fun o : Fin 16 => dutyTok ER (kcell (c, k)) 0 o

/-- What the launch element deals device `c`. -/
def G (c : Dev nD) : sProp 𝕄 :=
  iprop((bigSep Finset.univ fun k : Fin 3 => roundState ER (Rd m ρ) (kcell (c, k)) 0)
    ∗ (bigSep Finset.univ fun k : Fin 3 => iprop(atPos ER (kcell (c, k)) 0 ∅ 0 ∗ reached ER (kcell (c, k)) 0))
    ∗ (ownToks 0 c ∗ ownToks 1 c ∗ ownToks 2 c))

/-- What the global step makes of it. -/
def G' (c : Dev nD) : sProp 𝕄 := iprop(∃ K, ghost m ρ K c)

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 3 => Φ (kcell (c, k)) := by
    unfold allCells; rw [bigSep_map, bigSep_univ_prod]; rfl
  have hT : bigSep allToks (fun x => (dutyTok ER x.1 x.2.1 x.2.2 : sProp 𝕄))
      = iprop(bigSep Finset.univ (ownToks 0) ∗ bigSep Finset.univ (ownToks 1) ∗ bigSep Finset.univ (ownToks 2)) := by
    unfold allToks; rw [bigSep_map, bigSep_univ_prod, ← bigSep_sep', ← bigSep_sep']
    refine bigSep_congr fun c _ => ?_
    rw [bigSep_univ_prod, bigSep_three]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's three counters and accounts become three cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0))
          ∗ (ownToks 0 c ∗ ownToks 1 c ∗ ownToks 2 c)) := by
  have hv : iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
    rw [ownSems0_eq, unscopedSems0_eq, bigSep_three]
    iintro ⟨⟨HS, HV⟩, HB⟩
    isplitl [HB]; · iexact HB
    isplitl [HS] <;> iassumption
  unfold G
  iintro ⟨Hos, Hus, Hst, Hat, Htok⟩
  ihave Hv := hv $$ [Hos Hus]
  · isplitl [Hos] <;> iassumption
  imod (show iprop((bigSep Finset.univ fun k : Fin 3 => semVal (kcell (c, k)) 0) ∗ bigSep Finset.univ fun k : Fin 3 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat] <;> iassumption

/-- Device and offset to the partner of that number and the same offset: its own inverse. -/
def acrossAll : Dev nD × Fin 16 ≃ Dev nD × Fin 16 :=
  ⟨fun x => (peer x.1 x.2, x.2), fun x => (peer x.1 x.2, x.2), fun x => Prod.ext (peer_peer _ _) rfl, fun x => Prod.ext (peer_peer _ _) rfl⟩

omit [FloatOps F] in
/-- Something per device and offset may be dealt to the partner of that offset instead. -/
theorem deal_across (Φ : Dev nD → Fin 16 → sProp 𝕄) :
    (bigSep Finset.univ fun c : Dev nD => bigSep Finset.univ fun o : Fin 16 => Φ c o)
      = bigSep Finset.univ fun c : Dev nD => bigSep Finset.univ fun o : Fin 16 => Φ (peer c o) o := by
  rw [← bigSep_univ_prod (fun x : Dev nD × Fin 16 => Φ x.1 x.2), bigSep_univ_equiv acrossAll (fun x : Dev nD × Fin 16 => Φ x.1 x.2), bigSep_univ_prod]
  rfl

omit [FloatOps F] in
/-- The rights at the barriers and the arrivals go to the partners who pay there. -/
theorem toks_across : (bigSep Finset.univ fun c : Dev nD => (iprop(ownToks 0 c ∗ ownToks 1 c ∗ ownToks 2 c) : sProp 𝕄))
    ⊢ bigSep Finset.univ fun c : Dev nD => payToks c := by
  unfold ownToks payToks
  rw [bigSep_sep', bigSep_sep', bigSep_sep', bigSep_sep', deal_across (fun c o => dutyTok ER (kcell (c, 0)) 0 o),
    deal_across (fun c o => dutyTok ER (kcell (c, 2)) 0 o)]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 3 → ℕ) (c : Dev nD) : iprop(records m ρ K ∗ linear c) ⊢ G' m ρ c := by
  unfold G' ghost
  iintro H
  iexists K
  iexact H

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0))
          ∗ (ownToks 0 c ∗ ownToks 1 c ∗ ownToks 2 c)) : sProp 𝕄)
      ⊢ bigSep Finset.univ (G' m ρ) := by
  rw [bigSep_sep', bigSep_sep', ← bigSep_univ_prod (fun ck : Dev nD × Fin 3 => iprop(∃ κ : ℕ, cellInv ER (Rd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (Rd m ρ) κ (kcell ck) : sProp 𝕄))) $$ HI
  icases HK with ⟨%K, #HI⟩
  ihave Htk := (toks_across (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_three])))
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- A cell of one kind collects `n` from the one device whose partner of number `o` it belongs to. -/
theorem one_payer (cell : Dev nD → GSem nD τ sig) (hc : Function.Injective cell) (c : Dev nD) (o : Fin 16) (n : ℕ) :
    (∑ d : Dev nD, (tallyAt (cell (peer d o)) () n : CellTallies nD τ sig Unit) (cell c) ()) = n := by
  rw [Finset.sum_congr rfl fun d _ => show (tallyAt (cell (peer d o)) () n : CellTallies nD τ sig Unit) (cell c) () = if d = peer c o then n else 0 from by
      rw [tallyAt_apply]
      exact if_congr ⟨fun h => peer_eq_iff.mp (hc h.1).symm, fun h => ⟨by rw [peer_eq_iff.mpr h], rfl⟩⟩ rfl rfl,
    Finset.sum_ite_eq' Finset.univ (peer c o) fun _ => n, if_pos (Finset.mem_univ _)]

theorem bar_injective : Function.Injective barCell := fun _ _ h => congrArg (fun g : GSem nD τ sig => g.1.1) h
theorem recv_injective : Function.Injective recvCell := fun _ _ h => congrArg (fun g : GSem nD τ sig => g.1.1) h

theorem sum_owB (c : Dev nD) : ∀ os : List (Fin 16), (∑ d : Dev nD, owB d os (barCell c) ()) = os.length
  | [] => Finset.sum_const_zero
  | o :: os => by
    unfold owB
    rw [Finset.sum_congr rfl fun d _ => by rw [Pi.add_apply, Finsupp.add_apply], Finset.sum_add_distrib, sum_owB c os, one_payer barCell bar_injective]
    rfl
theorem sum_owR (c : Dev nD) : ∀ os : List (Fin 16), (∑ d : Dev nD, owR d os (recvCell c) ()) = os.length * N
  | [] => by rw [List.length_nil, Nat.zero_mul]; exact Finset.sum_const_zero
  | o :: os => by
    unfold owR
    rw [Finset.sum_congr rfl fun d _ => by rw [Pi.add_apply, Finsupp.add_apply], Finset.sum_add_distrib, sum_owR c os, one_payer recvCell recv_injective,
      List.length_cons, Nat.add_mul, Nat.one_mul]
theorem owB_recv (c d : Dev nD) (os : List (Fin 16)) : owB d os (recvCell c) () = 0 :=
  Nat.eq_zero_of_not_pos fun h => (owB_pos h).elim fun _ h => recv_ne_bar (congrArg Prod.snd h)
theorem owR_bar (c d : Dev nD) (os : List (Fin 16)) : owR d os (barCell c) () = 0 :=
  Nat.eq_zero_of_not_pos fun h => (owR_pos h).elim fun _ h => recv_ne_bar (congrArg Prod.snd h).symm

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same,
    Finset.sum_congr rfl fun d _ => by unfold O₀; rw [Pi.add_apply, Finsupp.add_apply, owR_bar, Nat.zero_add], sum_owB]
  rfl

theorem launch_recv (c : Dev nD) :
    tallyOn (recvCell c) (launchCredit (Pipeline.owing O₀) 0 (recvCell c)) = (tallyAt (recvCell c) () (15 * N) : CellTallies nD τ sig Unit) := by
  unfold tallyAt; refine congrArg _ (Finsupp.ext fun u => ?_); cases u
  rw [Pipeline.launchCredit_owing, Finsupp.single_eq_same,
    Finset.sum_congr rfl fun d _ => by unfold O₀; rw [Pi.add_apply, Finsupp.add_apply, owB_recv, Nat.add_zero], sum_owR]
  rfl

omit [FloatOps F] in
theorem creds (c : Dev nD) :
    (Pipeline.launchCred O₀ c : sProp 𝕄) ⊢ iprop(cred (tallyAt (barCell c) () 15) ∗ cred (tallyAt (recvCell c) () (15 * N))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The launch's side conditions -/

/-- The routing table, which the program never reads, at what it held. -/
def table (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ table m c) := by
  rw [Pipeline.unscopedRestP_none, unscopedRest0_eq]
  iintro ⟨Hres, Hlev, Hcr, -, HG⟩
  ihave Hc := (creds (F := F) c) $$ Hcr
  icases Hc with ⟨H1, HN⟩
  imodintro
  unfold start G' table
  isplitr [Hres]
  · isplitl [HG]; · iexact HG
    isplitl [H1]; · iexact H1
    isplitl [HN] <;> iassumption
  · iexact Hres

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, HzS, HzV, HzB⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read off at the end: the counters outside the call are at zero and the routing table is unchanged. -/
theorem end_read (c : Dev nD) (s' : Phys nD τ sig (Elt F)) :
    iprop(unscopedSems0 c ∗ table m c ∗ SI s')
      ⊢ (|={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') : sProp 𝕄) := by
  have hres : (iprop(table m c ∗ SI s') : sProp 𝕄)
      ⊢ iprop(⌜∀ i ∈ (Finset.univ : Finset Unit), s'.mem.mem ((c : Thread nD τ).loc main_arg1) = m ((c : Thread nD τ).loc main_arg1)⌝ ∗ SI s') := by
    have h := pointsTo_read_all (Ix := Unit) (Name := ℕ) (U := UU) (Lvl := ℕ) (q := fullShare) (Finset.univ : Finset Unit)
      (fun _ => (c : Thread nD τ).loc main_arg1) (fun _ => m ((c : Thread nD τ).loc main_arg1)) s'
    rw [bigSep_univ_eq_bigSepL [()] (by decide) (by decide)] at h
    exact h
  iintro ⟨Hu, Hres, HSI⟩
  ihave H := hres $$ [Hres HSI]; · isplitl [Hres] <;> iassumption
  icases H with ⟨%ht, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, ht () (Finset.mem_univ _)⟩
  iexact HSI

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- From any memory with the counters at zero, whatever the floats are: every fair execution of the sixteen devices
    finishes, with the arrays at `finalA`, the routing table unchanged and the counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := table m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := end_read m)
    (hQ := fun _ h hs => ⟨fun c => ⟨(h c).1, (h c).2.2.2⟩, sem_eq_zero hs fun c => (h c).2.2.1⟩)

/-- The arrays read are unchanged; -/
theorem finalA_in (c : Dev nD) (w : Fin cfg0.W) (hw : w ≠ (3 : Fin 4)) :
    finalA m ρ c w = m ((cfg0.win w).arr.view.loc (c : Thread nD τ)) :=
  (dats (F := F) m ρ 0 c).arrAt_in w (by revert hw; revert w; decide) _

/-- and the result is what the body stored. -/
theorem finalA_out (c : Dev nD) : (win0_3.blk (0 : Fin 1)).view.read (Elt F) (finalA m ρ c (3 : Fin 4)) = outAt m ρ c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

end Cert.Exchange

end
-- ==== Proof.Frames.lean ====
/-
# The frames

What the run says of the arguments and the counters, for the program as it is, for its idealization and for the reference.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Frames

open Idealize.ShloMosaic Idealize.SL.Sem

instance factsPreK : Cert.Pre_routed_KernelIdeal.Facts := ⟨by decide, by decide, by decide⟩
instance factsPreR : Cert.Pre_routed_ReferenceIdeal.Facts := ⟨by decide, by decide, by decide⟩

open Cert.KernelIdeal Cert.Exchange in
/-- What the run leaves on every device, for any floats: the result, and the arguments as they were. -/
theorem run_args {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v1) = finalA m g c (3 : Fin 4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).1 (3 : Fin 4),
      ((h.1 c).1 (0 : Fin 4)).trans (finalA_in m g c _ (by decide)), (h.1 c).2,
      ((h.1 c).1 (1 : Fin 4)).trans (finalA_in m g c _ (by decide)), ((h.1 c).1 (2 : Fin 4)).trans (finalA_in m g c _ (by decide))⟩, h.2⟩)
    (run_main m g)

theorem frame_kernelIdeal : Cert.quiescent_KernelIdeal := fun m g _ =>
  (θ_run Cert.KernelIdeal.defs _ _).mono (fun _ h => ⟨fun c => (h.1 c).2, h.2⟩) (run_args (F := Ideal) m g)
theorem frame_kernelIdeal_routed : Cert.quiescent_KernelIdeal_pre_routed_KernelIdeal := fun m g _ =>
  (θ_run Cert.KernelIdeal.defs _ _).mono (fun _ h => ⟨fun c => (h.1 c).2, h.2⟩) (run_args (F := Ideal) m g)

section
set_option maxRecDepth 20000
variable {F : FTy → Type} [FloatOps F]

/-- The program and its idealization are one text: they have one body, -/
theorem body_same : Cert.Kernel.cc0_body (F := F) = Cert.KernelIdeal.cc0_body (F := F) := rfl
theorem defs₀_same : Cert.Kernel.defs₀ (F := F) = Cert.KernelIdeal.defs₀ (F := F) := by
  unfold Cert.Kernel.defs₀ Cert.KernelIdeal.defs₀
  refine congrArg Defs.onTc ?_
  funext l a
  match l, a with
  | 0, (t, s) =>
    exact congrFun (congrFun (congrFun (congrFun (congrFun (congrFun (congrFun (congrFun (congrFun (congrFun (congrFun (congrFun body_same _) _) _) _) _) _) _) _) _) _) _) _
/-- and so one table of bodies. -/
theorem defs_same : Cert.Kernel.defs (F := F) = Cert.KernelIdeal.defs (F := F) :=
  congrArg (Pipeline.defs Cert.KernelIdeal.pcfgs) defs₀_same

theorem frame_kernel : Cert.quiescent_Kernel := fun m g _ => by
  rw [defs_same]
  exact (θ_run Cert.KernelIdeal.defs _ _).mono (fun _ h => ⟨fun c => (h.1 c).2, h.2⟩) (run_args (F := Bits) m g)
end

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)
theorem frame_reference_routed : Cert.quiescent_ReferenceIdeal_pre_routed_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Frames

end
-- ==== Proof.Spec.lean ====
/- What both programs compute, in plain terms: a token is kept when it is among the first six tokens that name its
   expert, and a kept token's row of the result is the token times its expert's weights; every other row is zero. -/
module

public import Idealize.ShloMosaic.Lib.Pointwise
public import Idealize.ShloMosaic.PureOps.Ideal

@[expose] public section

noncomputable section

namespace Cert.Spec

open Idealize.ShloMosaic

/-- How many of the first `k` tokens name expert `w`. -/
def seen (I : Fin 256 → BitVec 32) (k : ℕ) (w : BitVec 32) : ℕ :=
  (Finset.univ.filter fun j : Fin 256 => I j = w ∧ j.val < k).card

/-- A token's place among the tokens of its expert, from zero. -/
def place (I : Fin 256 → BitVec 32) (i : Fin 256) : ℕ := seen I i.val (I i)

theorem seen_zero (I : Fin 256 → BitVec 32) (w : BitVec 32) : seen I 0 w = 0 := by
  unfold seen; rw [Finset.card_eq_zero, Finset.filter_eq_empty_iff]
  rintro j - ⟨-, h⟩; exact Nat.not_lt_zero _ h

theorem seen_mono (I : Fin 256 → BitVec 32) (w : BitVec 32) {a b : ℕ} (h : a ≤ b) : seen I a w ≤ seen I b w :=
  Finset.card_le_card fun j hj => by
    simp only [Finset.mem_filter, Finset.mem_univ, true_and] at hj ⊢
    exact ⟨hj.1, hj.2.trans_le h⟩

theorem seen_le (I : Fin 256 → BitVec 32) (k : ℕ) (w : BitVec 32) : seen I k w ≤ 256 :=
  (Finset.card_le_univ _).trans (by simp)

/-- One more token: the count of its own expert goes up by one, every other stays. -/
theorem seen_succ (I : Fin 256 → BitVec 32) (i : Fin 256) (w : BitVec 32) :
    seen I (i.val + 1) w = seen I i.val w + if I i = w then 1 else 0 := by
  unfold seen
  by_cases h : I i = w
  · rw [if_pos h, ← Finset.card_insert_of_notMem (a := i) (by simp)]
    refine congrArg Finset.card (Finset.ext fun j => ?_)
    simp only [Finset.mem_filter, Finset.mem_univ, true_and, Finset.mem_insert, Fin.ext_iff]
    constructor
    · rintro ⟨h1, h2⟩; by_cases hj : j.val = i.val
      · exact .inl hj
      · exact .inr ⟨h1, by omega⟩
    · rintro (hj | ⟨h1, h2⟩)
      · exact ⟨by rw [Fin.ext hj]; exact h, by omega⟩
      · exact ⟨h1, by omega⟩
  · rw [if_neg h]
    refine (congrArg Finset.card (Finset.ext fun j => ?_)).trans (Nat.add_zero _).symm
    simp only [Finset.mem_filter, Finset.mem_univ, true_and]
    constructor
    · rintro ⟨h1, h2⟩
      refine ⟨h1, ?_⟩
      rcases Nat.lt_succ_iff_lt_or_eq.mp h2 with h3 | h3
      · exact h3
      · exact absurd ((congrArg I (Fin.ext h3)).symm.trans h1) h
    · rintro ⟨h1, h2⟩; exact ⟨h1, by omega⟩

/-- Two tokens of one expert have different places. -/
theorem place_inj (I : Fin 256 → BitVec 32) {i j : Fin 256} (hI : I i = I j) (hp : place I i = place I j) : i = j := by
  unfold place at hp
  rcases lt_trichotomy i.val j.val with h | h | h
  · have := seen_mono I (I i) (show i.val + 1 ≤ j.val from h)
    rw [seen_succ, if_pos rfl, hI] at this; rw [hI] at hp; omega
  · exact Fin.ext h
  · have := seen_mono I (I j) (show j.val + 1 ≤ i.val from h)
    rw [seen_succ, if_pos rfl, ← hI] at this; rw [← hI] at hp; omega

/-- The rows of the result. -/
def value (X : Fin 256 → Fin 128 → EReal) (W : Fin 32 → Fin 128 → Fin 256 → EReal) (I : Fin 256 → BitVec 32)
    (i n : Fin 256) : EReal :=
  if place I i < 6 then ∑ k, X i k * W ⟨(I i).toNat % 32, Nat.mod_lt _ (by decide)⟩ k n else 0

/-! ## Reading the idealized operations -/

/-- A bit turned into a number is one or zero. -/
theorem sitofp_bit (φ : FTy) (b : BitVec 1) :
    FloatOps.sitofp (F := Ideal) φ (BitVec.setWidth 32 b) = if b = 1#1 then (1 : EReal) else 0 := by
  show (((BitVec.setWidth 32 b).toInt : ℝ) : EReal) = _
  rcases BitVec.eq_zero_or_eq_one b with rfl | rfl <;> simp

/-- A sum of ones and zeros counts the ones. -/
theorem sum_bits {n : ℕ} (p : Fin n → Prop) [DecidablePred p] :
    ∑ x : Fin n, (if p x then (1 : EReal) else 0) = (((Finset.univ.filter p).card : ℝ) : EReal) := by
  rw [Finset.sum_ite, Finset.sum_const_zero, add_zero, Finset.sum_const, nsmul_one, EReal.coe_natCast]

/-- A row with a single one picks out one term. -/
theorem sum_pick {n : ℕ} (p : Fin n → Prop) [DecidablePred p] (f : Fin n → EReal) (i : Fin n) (h : ∀ x, p x ↔ x = i) :
    ∑ x : Fin n, (if p x then (1 : EReal) else 0) * f x = f i := by
  rw [Finset.sum_eq_single i]
  · rw [if_pos ((h i).mpr rfl), one_mul]
  · intro x _ hx; rw [if_neg fun hp => hx ((h x).mp hp), zero_mul]
  · intro h; exact absurd (Finset.mem_univ _) h

/-- A row of zeros gives zero. -/
theorem sum_none {n : ℕ} (p : Fin n → Prop) [DecidablePred p] (f : Fin n → EReal) (h : ∀ x, ¬ p x) :
    ∑ x : Fin n, (if p x then (1 : EReal) else 0) * f x = 0 :=
  Finset.sum_eq_zero fun x _ => by rw [if_neg (h x), zero_mul]

theorem ofBits_six : Ideal.ofBits .f32 1086324736#32 = ((6 : ℝ) : EReal) := by
  simp [Ideal.ofBits, Ideal.ieee, -EReal.coe_mul]; norm_num

/-- A count turned back into a word. -/
theorem fptosi_nat (n : ℕ) (h : n ≤ 256) : Ideal.fptosi 32 (((n : ℝ)) : EReal) = BitVec.ofNat 32 n := by
  rw [Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    norm_num; omega
  rw [this]; rfl

end Cert.Spec

end
-- ==== Proof.Masks.lean ====
/- The kernel's routing arithmetic at the idealized instance, read as plain numbers. -/
module

public import proofs.«01_k».proof.Proof.Spec
public import proofs.«01_k».proof.Proof.Exchange

@[expose] public section

noncomputable section

namespace Cert.Masks

open Idealize.ShloMosaic Cert.KernelIdeal Cert.KernelIdeal.Gen Cert.Spec Cert.Exchange

/-- The expert each token names. -/
abbrev names (v : IVec S256x1 32) : Fin 256 → BitVec 32 := fun i => v (ix2 i 0)

theorem pay1_apply (v : IVec S256x1 32) (i : Fin 256) : k0_pay1 (F := Ideal) v (ix2 i 0) = names v i := by
  pointwise [k0_pay1]

theorem and_bits (a b : Bool) : IntOp.andi (BitVec.ofBool a) (BitVec.ofBool b) = 1#1 ↔ a = true ∧ b = true := by
  cases a <;> cases b <;> decide

theorem and_ofBool (a b : Bool) : IntOp.andi (BitVec.ofBool a) (BitVec.ofBool b) = BitVec.ofBool (a && b) := by
  cases a <;> cases b <;> decide

/-- The count the kernel sums up for a token: its place, from one. -/
theorem pay2_apply (v : IVec S256x1 32) (i : Fin 256) :
    k0_pay2 (F := Ideal) v (ix2 i 0) = (((place (names v) i + 1 : ℕ) : ℝ) : EReal) := by
  pointwise [k0_pay2]
  simp only [sitofp_bit, pay1_apply]
  have h : ∀ x : Fin 256, (IntOp.andi (IntOp.cmpi .eq (names v i) (names v x))
      (IntOp.cmpi .sle (BitVec.ofNat 32 x.val) (BitVec.ofNat 32 i.val)) = 1#1) = (names v x = names v i ∧ x.val < i.val + 1) := by
    intro x
    have hx := x.isLt; have hi := i.isLt
    rw [IntOp.cmpi, IntOp.cmpi, and_bits]
    refine propext (and_congr ?_ ?_)
    · exact beq_iff_eq.trans eq_comm
    · simp [BitVec.sle, BitVec.toInt_eq_toNat_cond]; omega
  simp only [h]
  rw [sum_bits]
  have := seen_succ (names v) i (names v i)
  rw [if_pos rfl] at this
  unfold place; rw [← this]; rfl

theorem place_le (I : Fin 256 → BitVec 32) (i : Fin 256) : place I i + 1 ≤ 256 := by
  have := seen_succ I i (I i)
  rw [if_pos rfl] at this
  unfold place; rw [← this]; exact seen_le _ _ _

theorem pay3_apply (v : IVec S256x1 32) (i : Fin 256) :
    k0_pay3 (F := Ideal) v (ix2 i 0) = BitVec.ofBool (decide (place (names v) i < 6)) := by
  pointwise [k0_pay3]
  rw [pay2_apply, ofBits_six]
  congr 2
  rw [EReal.coe_le_coe_iff]
  refine propext ⟨fun h => ?_, fun h => ?_⟩
  · have : place (names v) i + 1 ≤ 6 := by exact_mod_cast h
    omega
  · have : place (names v) i + 1 ≤ 6 := h
    exact_mod_cast this

theorem pay4_apply (v : IVec S256x1 32) (i : Fin 256) :
    k0_pay4 (F := Ideal) v (ix2 i 0) = BitVec.ofNat 32 (place (names v) i) := by
  pointwise [k0_pay4]
  rw [pay2_apply]
  show IntOp.subi (Ideal.fptosi 32 _) 1#32 = _
  have := place_le (names v) i
  rw [fptosi_nat _ this]
  apply BitVec.eq_of_toNat_eq
  simp [IntOp.subi]; omega

theorem devw_eq (c : Dev nD) : devw c = BitVec.ofNat 32 c.val := by
  revert c; decide

/-- Which token a row of a device's mask picks: the kept token of that device's expert at that place. -/
theorem pay5_apply (c : Dev nD) (v : IVec S256x1 32) (hv : ∀ i, (names v i).toNat < 32) (r : Fin 16) (j : Fin 256) :
    k0_pay5 (F := Ideal) (devw c) v (ix2 r j) = 1#1 ↔
      place (names v) j < 6 ∧ (names v j).toNat / 2 = c.val ∧ (names v j).toNat % 2 * 8 + place (names v) j = r.val := by
  pointwise [k0_pay5]
  rw [pay1_apply, pay4_apply, pay3_apply, devw_eq]
  have hw := hv j; have hp := place_le (names v) j
  have hc := c.isLt; have hr := r.isLt
  generalize names v j = w at *
  generalize place (names v) j = p at *
  have hn : nD = 16 := rfl
  have h0 : ∀ x y : BitVec 32, x.toNat < 2 ^ 31 → y.toNat < 2 ^ 31 → (x.sle y = true ↔ x.toNat ≤ y.toNat) := fun x y hx hy => by
    simp only [BitVec.sle, decide_eq_true_iff, BitVec.toInt_eq_toNat_cond]; omega
  have h1 : ∀ x y : BitVec 32, x.toNat < 2 ^ 31 → y.toNat < 2 ^ 31 → (x.slt y = true ↔ x.toNat < y.toNat) := fun x y hx hy => by
    simp only [BitVec.slt, decide_eq_true_iff, BitVec.toInt_eq_toNat_cond]; omega
  have hlo : (Scalar.muli (2#32) (BitVec.ofNat 32 c.val)).toNat = 2 * c.val := by
    simp only [Scalar.muli, IntOp.muli, BitVec.toNat_mul, BitVec.toNat_ofNat]; omega
  have hhi : (Scalar.muli (2#32) (Scalar.addi (BitVec.ofNat 32 c.val) 1#32)).toNat = 2 * c.val + 2 := by
    simp only [Scalar.muli, Scalar.addi, IntOp.muli, IntOp.addi, BitVec.toNat_mul, BitVec.toNat_add, BitVec.toNat_ofNat]; omega
  simp only [IntOp.cmpi]
  rw [and_ofBool, and_ofBool, and_bits, Bool.and_eq_true, Bool.and_eq_true, beq_iff_eq, decide_eq_true_iff, h0 _ _ (by omega) (by omega),
    h1 _ _ (by omega) (by omega), hlo, hhi, ← BitVec.toNat_inj]
  simp only [IntOp.addi, IntOp.muli, IntOp.subi, BitVec.toNat_add, BitVec.toNat_mul, BitVec.toNat_sub, BitVec.toNat_ofNat, hlo]
  omega

/-- Which row of the gathered array a token takes: its own, if it is kept. -/
theorem pay9_apply (v : IVec S256x1 32) (hv : ∀ i, (names v i).toNat < 32) (i s : Fin 256) :
    IntOp.andi (IntOp.cmpi .eq (IntOp.addi (IntOp.muli (k0_pay1 (F := Ideal) v (ix2 i 0)) 8#32) (k0_pay4 (F := Ideal) v (ix2 i 0)))
        (BitVec.ofNat 32 s.val)) (k0_pay3 (F := Ideal) v (ix2 i 0)) = 1#1 ↔
      (names v i).toNat * 8 + place (names v) i = s.val ∧ place (names v) i < 6 := by
  rw [pay1_apply, pay4_apply, pay3_apply, IntOp.cmpi, and_bits]
  have hw := hv i; have hp := place_le (names v) i; have hs := s.isLt
  generalize names v i = w at *
  generalize place (names v) i = p at *
  rw [beq_iff_eq, ← BitVec.toNat_inj, decide_eq_true_iff]
  simp only [IntOp.addi, IntOp.muli, BitVec.toNat_add, BitVec.toNat_mul, BitVec.toNat_ofNat]
  omega
end Cert.Masks

end
-- ==== Proof.KernelValue.lean ====
/- The kernel's result at the idealized instance: every token's row is the one `Cert.Spec.value` names. -/
module

public import proofs.«01_k».proof.Proof.Masks

@[expose] public section

noncomputable section

namespace Cert.KernelValue

open Idealize.ShloMosaic Idealize.ShloMosaic.TcCoe Idealize.SL.Sem Cert.KernelIdeal Cert.KernelIdeal.Gen Cert.Spec Cert.Exchange Cert.Masks

variable (m : (ℓ : Loc nD τ sig) → Buf (Elt Ideal) ℓ) (ρ : Dev nD → PrngReg)

/-- Loading one of a device's two experts' weights. -/
theorem load0 (f : (cc0_stg2_0 : Ref sig .tc).ty.Contents (Elt Ideal)) (k : Fin 128) (n : Fin 256) :
    (wM.view.readAt (Elt Ideal) rW0.toLoadRect f) (ix3 0 k n) = f (ix3 0 k n) :=
  congrArg f (funext fun a => Fin.ext (by match a with | 0 => rfl | 1 => exact (Nat.zero_add _).trans (Nat.one_mul _) | 2 => exact (Nat.zero_add _).trans (Nat.one_mul _)))
theorem load1 (f : (cc0_stg2_0 : Ref sig .tc).ty.Contents (Elt Ideal)) (k : Fin 128) (n : Fin 256) :
    (wM.view.readAt (Elt Ideal) rW1.toLoadRect f) (ix3 0 k n) = f (ix3 1 k n) :=
  congrArg f (funext fun a => Fin.ext (by match a with | 0 => rfl | 1 => exact (Nat.zero_add _).trans (Nat.one_mul _) | 2 => exact (Nat.zero_add _).trans (Nat.one_mul _)))

/-- A device's rows: the tokens its mask picks, times its expert's weights. -/
theorem half0_apply (c : Dev nD) (r : Fin 8) (n : Fin 256) :
    half0 m ρ c (ix2 r n) = ∑ k : Fin 128,
      (∑ j : Fin 256, (if k0_pay5 (F := Ideal) (devw c) (istg m ρ c) (ix2 ⟨r.val, by omega⟩ j) = 1#1 then (1 : EReal) else 0) * xstg m ρ c (ix2 j k))
        * wstg m ρ c (ix3 0 k n) := by
  pointwise [half0, k0_pay7, k0_pay6]
  simp only [sitofp_bit]
  exact Finset.sum_congr rfl fun k _ => congrArg (fun z : EReal => _ * z) (load0 (wstg m ρ c) k n)
theorem half1_apply (c : Dev nD) (r : Fin 8) (n : Fin 256) :
    half1 m ρ c (ix2 r n) = ∑ k : Fin 128,
      (∑ j : Fin 256, (if k0_pay5 (F := Ideal) (devw c) (istg m ρ c) (ix2 ⟨8 + r.val, by omega⟩ j) = 1#1 then (1 : EReal) else 0) * xstg m ρ c (ix2 j k))
        * wstg m ρ c (ix3 1 k n) := by
  pointwise [half1, k0_pay8, k0_pay6]
  simp only [sitofp_bit]
  exact Finset.sum_congr rfl fun k _ => congrArg (fun z : EReal => _ * z) (load1 (wstg m ρ c) k n)

/-- Every expert has a device. -/
theorem expert_lt (c : Dev nD) (a : Fin 2) : 2 * c.val + a.val < 32 := by
  have : c.val < 16 := c.isLt
  omega

variable (V : IVec S256x1 32) (hv : ∀ i, (names V i).toNat < 32) (X : Fin 256 → Fin 128 → EReal) (W : Fin 32 → Fin 128 → Fin 256 → EReal)
  (hI : ∀ c, istg m ρ c = V) (hX : ∀ c j k, xstg m ρ c (ix2 j k) = X j k)
  (hW : ∀ (c : Dev nD) (a : Fin 2) k n, wstg m ρ c (ix3 a k n) = W ⟨2 * c.val + a.val, expert_lt c a⟩ k n)

include hv hI hX hW in
/-- The gathered array holds every kept token's row at the token's own place. -/
theorem gathered_apply (i s : Fin 256) (hp : place (names V) i < 6) (hs : (names V i).toNat * 8 + place (names V) i = s.val) (n : Fin 256) :
    gathered m ρ (ix2 s n) = ∑ k, X i k * W ⟨(names V i).toNat % 32, Nat.mod_lt _ (by decide)⟩ k n := by
  have hw := hv i
  have key : ∀ (c : Dev nD) (r : Fin 16), (names V i).toNat / 2 = c.val → (names V i).toNat % 2 * 8 + place (names V) i = r.val →
      ∀ j : Fin 256, k0_pay5 (F := Ideal) (devw c) V (ix2 r j) = 1#1 ↔ j = i := by
    intro c r hc hr j
    rw [pay5_apply c V hv r j]
    refine ⟨fun ⟨h1, h2, h3⟩ => place_inj (names V) (BitVec.eq_of_toNat_eq (by omega)) (by omega), fun h => h ▸ ⟨hp, hc, hr⟩⟩
  have hd : (devOf (ix2 s n)).val = s.val / 16 := rfl
  have hcell : cell8 (ix2 s n) = ix2 ⟨s.val % 8, Nat.mod_lt _ (by decide)⟩ n := eq_ix2 _
  show (if s.val % 16 < 8 then half0 m ρ (devOf (ix2 s n)) (cell8 (ix2 s n)) else half1 m ρ (devOf (ix2 s n)) (cell8 (ix2 s n))) = _
  rw [hcell]
  split
  · rename_i hlt
    rw [half0_apply]
    refine Finset.sum_congr rfl fun k _ => ?_
    simp only [hI, hX, hW]
    rw [sum_pick _ _ i (key (devOf (ix2 s n)) _ (by rw [hd]; omega) (by show _ = s.val % 8; omega))]
    congr 3
    show 2 * (devOf (ix2 s n)).val + 0 = _
    rw [hd]; omega
  · rename_i hlt
    rw [half1_apply]
    refine Finset.sum_congr rfl fun k _ => ?_
    simp only [hI, hX, hW]
    rw [sum_pick _ _ i (key (devOf (ix2 s n)) _ (by rw [hd]; omega) (by show _ = 8 + s.val % 8; omega))]
    congr 3
    show 2 * (devOf (ix2 s n)).val + 1 = _
    rw [hd]; omega

include hv hI hX hW in
/-- The kernel's result, on every device. -/
theorem outAt_apply (c : Dev nD) (i n : Fin 256) : outAt m ρ c (ix2 i n) = value X W (names V) i n := by
  unfold outAt
  pointwise [k0_pay10, k0_pay9]
  simp only [sitofp_bit, hI, pay9_apply V hv]
  have hw := hv i
  unfold value
  split
  · rename_i hp
    rw [sum_pick _ _ (⟨(names V i).toNat * 8 + place (names V) i, by omega⟩ : Fin 256) (fun x => ⟨fun h => Fin.ext h.1.symm, fun h => ⟨h ▸ rfl, hp⟩⟩)]
    exact gathered_apply m ρ V hv X W hI hX hW i _ hp rfl n
  · rename_i hp
    exact sum_none _ _ fun x h => hp h.2

end Cert.KernelValue

end
-- ==== Proof.Trip.lean ====
/- One trip of the reference's loop over the tokens, at the idealized instance, read element by element: the trip looks up
   the token's expert, keeps the token if fewer than six are counted for that expert, counts it, and writes its row. -/
module

public import proofs.«01_k».proof.Proof.Spec
public import proofs.«01_k».proof.Proof.Gen.ReferenceIdeal.Run
public import Idealize.ShloMosaic.Lib.Routing.OpsOne

@[expose] public section

noncomputable section

namespace Cert.Trip

open Idealize.ShloMosaic Cert.ReferenceIdeal Cert.ReferenceIdeal.Gen Cert.ReferenceIdeal.Value Cert.Spec

/-- One word of a list, at a start that is in range. -/
theorem word_at (x : IVec S256 32) (st : Fin 1 → Int) (h : S256.Slices (fun _ => 0) S1) (hc : S1.ShapeCasts S_) (i : Fin 256) (hs : st 0 = i.val) :
    shapeCast S_ (Host.dynamicSlice S1 x st h) hc = fun _ => x (ix1 i) := by
  funext j
  obtain rfl : j = ix0 := funext fun a => a.elim0
  pointwise
  exact congrArg (fun z => x (ix1 z)) (Fin.ext (Host.clampedStart_of_le h.1 st 0 i.val hs (by show i.val + 1 ≤ 256; omega)))
theorem count_at (x : IVec S32 32) (st : Fin 1 → Int) (h : S32.Slices (fun _ => 0) S1) (hc : S1.ShapeCasts S_) (i : Fin 32) (hs : st 0 = i.val) :
    shapeCast S_ (Host.dynamicSlice S1 x st h) hc = fun _ => x (ix1 i) := by
  funext j
  obtain rfl : j = ix0 := funext fun a => a.elim0
  pointwise
  exact congrArg (fun z => x (ix1 z)) (Fin.ext (Host.clampedStart_of_le h.1 st 0 i.val hs (by show i.val + 1 ≤ 32; omega)))

/-- A word that is not negative is left as it is. -/
theorem wrap (w : BitVec 32) (hw : w.toNat < 32) :
    select (cmpi .slt (fun _ : S_.Idx => w) (constantI S_ 32 0#32)) (addi (fun _ : S_.Idx => w) (constantI S_ 32 32#32)) (fun _ => w) = fun _ => w := by
  funext j
  obtain rfl : j = ix0 := funext fun a => a.elim0
  pointwise
  exact Routing.wrap_of_lt _ _ (by omega)

/-- Adding one word at one place. -/
theorem add_at (x : IVec S32 32) (idx : IVec S1 32) (u : IVec S_ 32) (k : Fin 32) (hk : (idx (ix1 0)).toInt = k.val) (e : Fin 32) :
    Host.scatter scatter_S32_S1_S__n_0_0_0 IntOp.addi x idx u (ix1 e) = if e = k then x (ix1 e) + u ix0 else x (ix1 e) := by
  have hl : (if scatter_S32_S1_S__n_0_0_0.resultIdx? ix0 idx = some (ix1 e) then IntOp.addi (x (ix1 e)) (u ix0) else x (ix1 e))
      = if e = k then x (ix1 e) + u ix0 else x (ix1 e) :=
    if_congr (Routing.lands_one scatter_S32_S1_S__n_0_0_0 rfl rfl idx k hk e) rfl rfl
  rw [Routing.scatter_at]
  have h1 : (Shape.rowMajor S_).symm (0 : Fin 1) = ix0 := funext fun a => a.elim0
  rw [← h1] at hl ⊢
  exact hl

/-- Writing one token's row. -/
theorem row_at (O : FVec Ideal S256x256 .f32) (X : FVec Ideal S256x128 .f32) (W : FVec Ideal S32x128x256 .f32) (b : BitVec 1)
    (s2 : Fin 2 → Int) (s3 : Fin 3 → Int) (i : Fin 256) (w : Fin 32) (h20 : s2 0 = i.val) (h21 : s2 1 = 0) (h30 : s3 0 = w.val) (h31 : s3 1 = 0) (h32 : s3 2 = 0)
    (r n : Fin 256) :
    Host.dynamicUpdateSlice O (broadcastInDim S1x256 ![1] bcast_S256_S1x256_1 (select (broadcastInDim S256 ![] bcast_S_S256 (fun _ : S_.Idx => b))
        (Host.dotGeneral dot_S128_S128x256_S256_0_0_n_1_n_n none
          (shapeCast S128 (Host.dynamicSlice S1x128 X s2 sliceFits_S256x128_S1x128) shapeCasts_S1x128_S128)
          (shapeCast S128x256 (Host.dynamicSlice S1x128x256 W s3 sliceFits_S32x128x256_S1x128x256) shapeCasts_S1x128x256_S128x256))
        (broadcastInDim S256 ![] bcast_S_S256 (id (constant S_ .f32 0x00000000#32))))) s2 updateFits_S256x256_S1x256 (ix2 r n)
      = if r = i then Scalar.select b (∑ k : Fin 128, X (ix2 i k) * W (ix3 w k n)) 0 else O (ix2 r n) := by
  pointwise
  have d0 := Host.clampedStart_of_le (s := S256x256) (t := S1x256) updateFits_S256x256_S1x256.1 s2 0 i.val h20 (by show i.val + 1 ≤ 256; omega)
  have d1 := Host.clampedStart_of_le (s := S256x256) (t := S1x256) updateFits_S256x256_S1x256.1 s2 1 0 h21 (by decide)
  have x0 := Host.clampedStart_of_le (s := S256x128) (t := S1x128) sliceFits_S256x128_S1x128.1 s2 0 i.val h20 (by show i.val + 1 ≤ 256; omega)
  have x1 := Host.clampedStart_of_le (s := S256x128) (t := S1x128) sliceFits_S256x128_S1x128.1 s2 1 0 h21 (by decide)
  have w0 := Host.clampedStart_of_le (s := S32x128x256) (t := S1x128x256) sliceFits_S32x128x256_S1x128x256.1 s3 0 w.val h30 (by show w.val + 1 ≤ 32; omega)
  have w1 := Host.clampedStart_of_le (s := S32x128x256) (t := S1x128x256) sliceFits_S32x128x256_S1x128x256.1 s3 1 0 h31 (by decide)
  have w2 := Host.clampedStart_of_le (s := S32x128x256) (t := S1x128x256) sliceFits_S32x128x256_S1x128x256.1 s3 2 0 h32 (by decide)
  simp only [d0, d1, x0, x1, w0, w1, w2, Nat.zero_add, Nat.sub_zero]
  have hn := n.isLt
  by_cases hr : r = i
  · subst hr
    rw [dif_pos (by omega), if_pos rfl]
    exact congrArg _ Ideal.ofBits_zero_f32
  · rw [dif_neg (fun h => hr (Fin.ext (by omega))), if_neg hr]

end Cert.Trip

end
-- ==== Proof.ReferenceValue.lean ====
/- The reference's result at the idealized instance: after `k` tokens the counts are those of the first `k` tokens, capped at
   six, and the first `k` rows are the ones `Cert.Spec.value` names. -/
module

public import proofs.«01_k».proof.Proof.Trip

@[expose] public section

noncomputable section

namespace Cert.ReferenceValue

open Idealize.ShloMosaic Idealize.ShloMosaic.TcCoe Idealize.ShloMosaic.StableHlo Cert.ReferenceIdeal Cert.ReferenceIdeal.Gen Cert.ReferenceIdeal.Value Cert.Spec Cert.Trip

variable (X : FVec Ideal S256x128 .f32) (I : IVec S256 32) (W : FVec Ideal S32x128x256 .f32)

abbrev names : Fin 256 → BitVec 32 := fun i => I (ix1 i)
abbrev row (r n : Fin 256) : EReal := value (fun i k => X (ix2 i k)) (fun e k n => W (ix3 e k n)) (names I) r n

/-- What the loop holds after `k` tokens. -/
structure At (V : Valuation τ sig (Elt Ideal)) (k : ℕ) : Prop where
  tok : V (Proc.devRef .tc main_v5_0) = X
  exp : V (Proc.devRef .tc main_v5_1) = I
  wts : V (Proc.devRef .tc main_v5_2) = W
  ctr : V (Proc.devRef .tc main_v5_3) = fun _ => (BitVec.ofNat 32 k : BitVec 32)
  cnt : ∀ e : Fin 32, (V (Proc.devRef .tc main_v5_4) : IVec S32 32) (ix1 e) = BitVec.ofNat 32 (min 6 (seen (names I) k (BitVec.ofNat 32 e.val)))
  out : ∀ r n : Fin 256, (V (Proc.devRef .tc main_v5_5) : FVec Ideal S256x256 .f32) (ix2 r n) = if r.val < k then row X I W r n else 0

theorem toInt_nat (n : ℕ) (h : n < 256) : (BitVec.ofNat 32 n).toInt = (n : ℤ) := by
  rw [BitVec.toInt_eq_toNat_cond, BitVec.toNat_ofNat]; omega

variable {I} in
/-- The expert's number, as the place the reference reads and writes at. -/
theorem start_eq (hv : ∀ i, (names I i).toNat < 32) (i : Fin 256) :
    (select (cmpi .slt (fun _ : S_.Idx => names I i) (constantI S_ 32 0#32)) (addi (fun _ : S_.Idx => names I i) (constantI S_ 32 32#32))
      (fun _ => names I i) ix0).toInt = (names I i).toNat := by
  rw [wrap _ (hv i)]
  show (names I i).toInt = _
  rw [BitVec.toInt_eq_toNat_cond]
  have := hv i; omega

theorem ofNat_names (w : BitVec 32) : BitVec.ofNat 32 w.toNat = w := by simp

variable {X I W} {V : Valuation τ sig (Elt Ideal)}

theorem At.v7 {i : Fin 256} (h : At X I W V i.val) : res_main_while0b_v7 V = fun _ => names I i := by
  unfold res_main_while0b_v7
  rw [h.exp, h.ctr]
  exact word_at I _ _ _ i (toInt_nat i.val i.isLt)

theorem At.v13 (hv : ∀ i, (names I i).toNat < 32) {i : Fin 256} (h : At X I W V i.val) :
    res_main_while0b_v13 V = fun _ => BitVec.ofBool (decide (place (names I) i < 6)) := by
  unfold res_main_while0b_v13
  rw [h.v7]
  refine (congrArg (fun z : IVec S_ 32 => cmpi .slt z (constantI S_ 32 6#32))
    (count_at _ _ _ _ ⟨(names I i).toNat, hv i⟩ (start_eq hv i))).trans (funext fun _ => ?_)
  show IntOp.cmpi .slt ((V (Proc.devRef .tc main_v5_4) : IVec S32 32) (ix1 ⟨(names I i).toNat, hv i⟩)) 6#32 = _
  rw [h.cnt, ofNat_names]
  show BitVec.ofBool ((BitVec.ofNat 32 (min 6 (place (names I) i))).slt 6#32) = _
  congr 1
  rw [BitVec.slt, toInt_nat _ (by omega)]
  refine decide_eq_decide.mpr ?_
  show ((min 6 (place (names I) i) : ℕ) : ℤ) < 6 ↔ _
  omega

theorem At.step (hv : ∀ i, (names I i).toNat < 32) {i : Fin 256} (h : At X I W V i.val) : At X I W (STEP V) (i.val + 1) where
  tok := (STEP_main_v5_0 V).trans h.tok
  exp := (STEP_main_v5_1 V).trans h.exp
  wts := (STEP_main_v5_2 V).trans h.wts
  ctr := by
    rw [STEP_main_v5_3]
    unfold step_main_v5_3
    rw [h.ctr]
    funext j
    exact (BitVec.ofNat_add i.val 1).symm
  cnt e := by
    rw [STEP_main_v5_4]
    unfold step_main_v5_4
    rw [h.v13 hv, h.v7]
    refine (add_at _ _ _ ⟨(names I i).toNat, hv i⟩ (start_eq hv i) e).trans ?_
    rw [h.cnt e, seen_succ]
    by_cases he : e = ⟨(names I i).toNat, hv i⟩
    · have hn : names I i = BitVec.ofNat 32 e.val := by rw [he, ofNat_names]
      have hs : seen (names I) i.val (BitVec.ofNat 32 e.val) = place (names I) i := by rw [← hn]; rfl
      rw [if_pos he, if_pos hn, hs]
      show _ + BitVec.setWidth 32 (BitVec.ofBool (decide (place (names I) i < 6))) = _
      apply BitVec.eq_of_toNat_eq
      by_cases hp : place (names I) i < 6
      · rw [decide_eq_true hp]; simp; omega
      · rw [decide_eq_false hp]; simp; omega
    · rw [if_neg he, if_neg fun hn => he (Fin.ext (by
        have := congrArg BitVec.toNat hn
        rw [BitVec.toNat_ofNat] at this
        show e.val = (names I i).toNat
        omega))]
      rfl
  out r n := by
    rw [STEP_main_v5_5]
    unfold step_main_v5_5
    rw [h.v13 hv, h.v7]
    refine (row_at _ _ _ _ _ _ i ⟨(names I i).toNat, hv i⟩ ?_ rfl (start_eq hv i) rfl rfl r n).trans ?_
    · rw [h.ctr]; exact toInt_nat i.val i.isLt
    · rw [h.tok, h.wts, h.out r n]
      by_cases hr : r = i
      · subst hr
        rw [if_pos rfl, if_pos (Nat.lt_succ_self _)]
        unfold row value
        have hw : (⟨(names I r).toNat % 32, Nat.mod_lt _ (by decide)⟩ : Fin 32) = ⟨(names I r).toNat, hv r⟩ := Fin.ext (Nat.mod_eq_of_lt (hv r))
        by_cases hp : place (names I) r < 6
        · rw [decide_eq_true hp, if_pos hp, hw]; rfl
        · rw [decide_eq_false hp, if_neg hp]; rfl
      · rw [if_neg hr]
        refine if_congr ?_ rfl rfl
        have : r.val ≠ i.val := fun h => hr (Fin.ext h)
        omega

theorem At.all (hv : ∀ i, (names I i).toNat < 32) (h : At X I W V 0) : ∀ k, k ≤ 256 → At X I W (STEP^[k] V) k
  | 0, _ => h
  | k + 1, hk => by
    rw [Function.iterate_succ_apply']
    exact (At.all hv h k (by omega)).step (i := ⟨k, hk⟩) hv

/-- The routing as a list. -/
theorem list_eq (x : IVec S256x1 32) (h : S256x1.ShapeCasts S256) : shapeCast S256 x h = fun j => x (ix2 (j 0) 0) := by
  funext j
  obtain ⟨a, rfl⟩ : ∃ a : Fin 256, j = ix1 a := ⟨j 0, eq_ix1 j⟩
  pointwise

variable (m : (ℓ : Loc nD τ sig) → Buf (Elt Ideal) ℓ)

theorem entry (c : Dev nD) : At (m ((c.tc : Thread nD τ).loc main_arg0)) (fun j => m ((c.tc : Thread nD τ).loc main_arg2) (ix2 (j 0) 0))
    (m ((c.tc : Thread nD τ).loc main_arg3)) (entryContents preI m c) 0 where
  tok := by
    simp only [entryContents, afterL_cons, afterL_nil]
    after_reads_simp
    rfl
  exp := by
    simp only [entryContents, afterL_cons, afterL_nil]
    after_reads_simp
    exact list_eq _ _
  wts := by
    simp only [entryContents, afterL_cons, afterL_nil]
    after_reads_simp
    rfl
  ctr := ctr_entry m c
  cnt e := by
    simp only [entryContents, afterL_cons, afterL_nil]
    after_reads_simp
    rw [seen_zero]
    rfl
  out r n := by
    rw [if_neg (Nat.not_lt_zero _)]
    simp only [entryContents, afterL_cons, afterL_nil]
    after_reads_simp
    exact Ideal.ofBits_zero_f32

end Cert.ReferenceValue

end
-- ==== Proof.Algebraic.lean ====
/- Kernel and reference compute the same result, over exact arithmetic, for every routing to experts that exist. -/
module

public import proofs.«01_k».proof.Proof.Frames
public import proofs.«01_k».proof.Proof.KernelValue
public import proofs.«01_k».proof.Proof.ReferenceValue
public import Idealize.ShloMosaic.Lib.ReduceAll

@[expose] public section

noncomputable section

namespace Cert.Algebraic

open Idealize.ShloMosaic Idealize.ShloMosaic.TcCoe Idealize.SL.Sem

section
open Cert.KernelIdeal Cert.KernelIdeal.Gen Cert.Exchange

/-- Each operand is staged whole, and the result is written back whole. -/
theorem stage0 (f : (main_arg0 : Ref sig .tc).ty.Contents (Elt Ideal)) : (win0_0.blk (0 : Fin 1)).view.read (Elt Ideal) f = f :=
  funext fun i => congrArg f (funext fun a => Fin.ext (by match a with | 0 => exact (Nat.zero_add _).trans (Nat.one_mul _) | 1 => exact (Nat.zero_add _).trans (Nat.one_mul _)))
theorem stage1 (f : (main_arg2 : Ref sig .tc).ty.Contents (Elt Ideal)) : (win0_1.blk (0 : Fin 1)).view.read (Elt Ideal) f = f :=
  funext fun i => congrArg f (funext fun a => Fin.ext (by match a with | 0 => exact (Nat.zero_add _).trans (Nat.one_mul _) | 1 => exact (Nat.zero_add _).trans (Nat.one_mul _)))
theorem stage2 (f : (main_arg3 : Ref sig .tc).ty.Contents (Elt Ideal)) : (win0_2.blk (0 : Fin 1)).view.read (Elt Ideal) f = f :=
  funext fun i => congrArg f (funext fun a => Fin.ext (by match a with | 0 => exact (Nat.zero_add _).trans (Nat.one_mul _) | 1 => exact (Nat.zero_add _).trans (Nat.one_mul _) | 2 => exact (Nat.zero_add _).trans (Nat.one_mul _)))
theorem stage3 (f : (main_v1 : Ref sig .tc).ty.Contents (Elt Ideal)) : (win0_3.blk (0 : Fin 1)).view.read (Elt Ideal) f = f :=
  funext fun i => congrArg f (funext fun a => Fin.ext (by match a with | 0 => exact (Nat.zero_add _).trans (Nat.one_mul _) | 1 => exact (Nat.zero_add _).trans (Nat.one_mul _)))
end

/-- The precondition, for one token: its expert exists. -/
theorem expert_lt {x0 x1} {v : IVec Cert.Pre_routed_KernelIdeal.S256x1 32} {x3}
    (h : Cert.Pre_routed_KernelIdeal.fn (F := Ideal) x0 x1 v x3 = fun _ => 1#1) (i : Fin 256) : (v (ix2 i 0)).toNat < 32 := by
  dsimp only [Cert.Pre_routed_KernelIdeal.fn] at h
  have e := Host.reduce_andi_all _ _ _ _ ix0 (congrFun h ix0) (ix2 i 0)
  pointwise at e
  rw [IntOp.cmpi, IntOp.cmpi, Cert.Masks.and_bits] at e
  obtain ⟨e1, e2⟩ := e
  simp only [BitVec.sle, BitVec.slt, decide_eq_true_iff, BitVec.toInt_eq_toNat_cond, BitVec.toNat_ofNat] at e1 e2
  omega

/-- A device's two experts, among all of them. -/
theorem block_at (f : (⟨3, ![32, 128, 256]⟩ : Shape).Idx → EReal) (h : Layout.Tiles ⟨3, ![2, 128, 256]⟩ ⟨3, ![32, 128, 256]⟩ 0 16)
    (c : Fin 16) (a : Fin 2) (k : Fin 128) (n : Fin 256) (hl : 2 * c.val + a.val < 32) :
    Layout.block ⟨3, ![2, 128, 256]⟩ ⟨3, ![32, 128, 256]⟩ 0 16 c f h (ix3 a k n) = f (ix3 ⟨2 * c.val + a.val, hl⟩ k n) := by
  refine congrArg f (funext fun (b : Fin 3) => Fin.ext ?_)
  match b with
  | 0 => exact congrArg (· + a.val) (Nat.mul_comm c.val 2)
  | 1 => rfl
  | 2 => rfl

theorem algebraic : Cert.algebraic_KernelIdeal_ReferenceIdeal_pre_routed_KernelIdeal := by
  intro m g m' g' hpre hm
  refine ⟨_, (θ_run Cert.KernelIdeal.defs _ _).mono (fun r h c => ⟨?_, (h.1 c).2⟩) (Cert.Frames.run_args (F := Ideal) m g),
    (θ_run Cert.ReferenceIdeal.defs _ _).mono (fun r h => h 0) (Cert.ReferenceIdeal.Value.run (F := Ideal) m' g')⟩
  rw [(h.1 c).1]
  have hv : ∀ i : Fin 256, ((m' (((0 : Dev Cert.ReferenceIdeal.nD).tc : Thread Cert.ReferenceIdeal.nD Cert.ReferenceIdeal.τ).loc Cert.ReferenceIdeal.main_arg2) : IVec Cert.ReferenceIdeal.S256x1 32) (ix2 i 0)).toNat < 32 := by
    have := hpre c
    rw [(hm c).2.2.1] at this
    exact expert_lt this
  have href := (Cert.ReferenceValue.At.all (by exact hv) (Cert.ReferenceValue.entry m' 0) 256 le_rfl).out
  have hker := Cert.KernelValue.outAt_apply m g (m' (((0 : Dev Cert.ReferenceIdeal.nD).tc : Thread Cert.ReferenceIdeal.nD Cert.ReferenceIdeal.τ).loc Cert.ReferenceIdeal.main_arg2)) hv
    (fun i k => m' (((0 : Dev Cert.ReferenceIdeal.nD).tc : Thread Cert.ReferenceIdeal.nD Cert.ReferenceIdeal.τ).loc Cert.ReferenceIdeal.main_arg0) (ix2 i k))
    (fun e k n => m' (((0 : Dev Cert.ReferenceIdeal.nD).tc : Thread Cert.ReferenceIdeal.nD Cert.ReferenceIdeal.τ).loc Cert.ReferenceIdeal.main_arg3) (ix3 e k n))
    (fun c => (stage1 _).trans (hm c).2.2.1)
    (fun c j k => congrFun ((stage0 _).trans (hm c).1) _)
    (fun c a k n => (congrFun ((stage2 _).trans (hm c).2.2.2) _).trans (block_at _ _ c a k n (Cert.KernelValue.expert_lt c a))) c
  refine (stage3 _).symm.trans ((Cert.Exchange.finalA_out m g c).trans (funext fun (j : Cert.KernelIdeal.S256x256.Idx) => ?_))
  obtain ⟨a, b, rfl⟩ : ∃ (a b : Fin 256), j = ix2 a b := ⟨j 0, j 1, eq_ix2 j⟩
  exact (hker a b).trans ((href a b).trans (if_pos a.isLt)).symm

end Cert.Algebraic

end
-- ==== Proof.lean ====
/- The certificate's claims, put together from the modules that prove them: the frames of the program, of its idealization
   and of the reference, and the equality of kernel and reference over exact arithmetic. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Frames.factsPreK, Cert.Frames.factsPreR,
    Cert.Frames.frame_kernel, Cert.Frames.frame_kernelIdeal, Cert.Frames.frame_kernelIdeal_routed, Cert.Frames.frame_reference,
    Cert.Frames.frame_reference_routed, trivial, Cert.Algebraic.algebraic⟩

end Cert.Proof

end
